-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4x1024x1024 : Shape := ⟨3, ![4, 1024, 1024]⟩
abbrev S2x1024x1024 : Shape := ⟨3, ![2, 1024, 1024]⟩
abbrev S4x8x128 : Shape := ⟨3, ![4, 8, 128]⟩
abbrev S4 : Shape := ⟨1, ![4]⟩
abbrev S3x4 : Shape := ⟨2, ![3, 4]⟩
abbrev S3 : Shape := ⟨1, ![3]⟩
abbrev S_ : Shape := ⟨0, ![]⟩
abbrev S1 : Shape := ⟨1, ![1]⟩
abbrev S1024x512 : Shape := ⟨2, ![1024, 512]⟩
abbrev S1x1024x1024 : Shape := ⟨3, ![1, 1024, 1024]⟩
abbrev S1024x1024 : Shape := ⟨2, ![1024, 1024]⟩
abbrev S1024x256 : Shape := ⟨2, ![1024, 256]⟩
abbrev S1x1024x256 : Shape := ⟨3, ![1, 1024, 256]⟩
abbrev S1x1 : Shape := ⟨2, ![1, 1]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1024x2048, .f32⟩
  | .local _ .vmem, ⟨0, _⟩ => ⟨S4x1024x1024, .f32⟩
  | .local _ .vmem, ⟨1, _⟩ => ⟨S1024x2048, .f32⟩
  | .local _ .vmem, ⟨2, _⟩ => ⟨S1024x2048, .f32⟩
  | .local _ .vmem, ⟨3, _⟩ => ⟨S2x1024x1024, .f32⟩
  | .local _ .vmem, ⟨4, _⟩ => ⟨S2x1024x1024, .f32⟩
  | .local _ .vmem, ⟨5, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 3 66 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 2

abbrev nD : Nat := 4
abbrev τ : Topo := Topo.v7x

variable {F : FTy → Type} [FloatOps F]

abbrev grid0 : Pipeline.Grid := .none

def k0_off1 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c3_i32
  let c4_i32_5 : BitVec 32 := 4#32
  let v9 : BitVec 32 := Scalar.remsi v8 c4_i32_5
  let c1024_i32 : BitVec 32 := 1024#32
  let v14 : BitVec 32 := Scalar.muli v9 c1024_i32
  let c0_i32_20 : BitVec 32 := 0#32
  ![v14.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_11 : BitVec 32 := 1024#32
  let v17 : BitVec 32 := Scalar.muli v2 c1024_i32_11
  let c0_i32_48 : BitVec 32 := 0#32
  ![v17.toNat, 0]
def k0_dev1 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_50 : BitVec 32 := 1#32
  let v55 : BitVec 32 := Scalar.muli v7 c1_i32_50
  let v56 : BitVec 32 := Scalar.addi c0_i32_51 v55
  v56.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_53 : BitVec 32 := 1#32
  let v57 : BitVec 32 := Scalar.muli v4 c1_i32_53
  let v58 : BitVec 32 := Scalar.addi c0_i32_54 v57
  v58.toNat
def k0_dev3 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_96 : BitVec 32 := 1#32
  let v91 : BitVec 32 := Scalar.muli v4 c1_i32_96
  let v92 : BitVec 32 := Scalar.addi c0_i32_97 v91
  v92.toNat
def k0_dev4 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_108 : BitVec 32 := 1#32
  let v101 : BitVec 32 := Scalar.muli v7 c1_i32_108
  let v102 : BitVec 32 := Scalar.addi c0_i32_109 v101
  v102.toNat
def k0_dev5 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_136 : BitVec 32 := 1#32
  let v125 : BitVec 32 := Scalar.muli v4 c1_i32_136
  let v126 : BitVec 32 := Scalar.addi c0_i32_137 v125
  v126.toNat
def k0_dev6 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_147 : BitVec 32 := 1#32
  let v135 : BitVec 32 := Scalar.muli v7 c1_i32_147
  let v136 : BitVec 32 := Scalar.addi c0_i32_148 v135
  v136.toNat
def k0_dev7 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_185 : BitVec 32 := 1#32
  let v167 : BitVec 32 := Scalar.muli v4 c1_i32_185
  let v168 : BitVec 32 := Scalar.addi c0_i32_186 v167
  v168.toNat
def k0_dev8 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_197 : BitVec 32 := 1#32
  let v177 : BitVec 32 := Scalar.muli v7 c1_i32_197
  let v178 : BitVec 32 := Scalar.addi c0_i32_198 v177
  v178.toNat
def k0_dev9 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_225 : BitVec 32 := 1#32
  let v201 : BitVec 32 := Scalar.muli v4 c1_i32_225
  let v202 : BitVec 32 := Scalar.addi c0_i32_226 v201
  v202.toNat
def k0_dev10 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_236 : BitVec 32 := 1#32
  let v211 : BitVec 32 := Scalar.muli v7 c1_i32_236
  let v212 : BitVec 32 := Scalar.addi c0_i32_237 v211
  v212.toNat
def k0_dev11 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_353 : BitVec 32 := 1#32
  let v298 : BitVec 32 := Scalar.muli v7 c1_i32_353
  let v299 : BitVec 32 := Scalar.addi c0_i32_354 v298
  v299.toNat
def k0_dev12 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_356 : BitVec 32 := 1#32
  let v300 : BitVec 32 := Scalar.muli v4 c1_i32_356
  let v301 : BitVec 32 := Scalar.addi c0_i32_357 v300
  v301.toNat
def k0_dev13 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_368 : BitVec 32 := 1#32
  let v302 : BitVec 32 := Scalar.muli v4 c1_i32_368
  let v303 : BitVec 32 := Scalar.addi c0_i32_369 v302
  v303.toNat
def k0_dev14 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_380 : BitVec 32 := 1#32
  let v312 : BitVec 32 := Scalar.muli v7 c1_i32_380
  let v313 : BitVec 32 := Scalar.addi c0_i32_381 v312
  v313.toNat
def k0_dev15 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_445 : BitVec 32 := 1#32
  let v362 : BitVec 32 := Scalar.muli v7 c1_i32_445
  let v363 : BitVec 32 := Scalar.addi c0_i32_446 v362
  v363.toNat
def k0_dev16 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_448 : BitVec 32 := 1#32
  let v364 : BitVec 32 := Scalar.muli v4 c1_i32_448
  let v365 : BitVec 32 := Scalar.addi c0_i32_449 v364
  v365.toNat
def k0_dev17 (d0 : Dev nD) : Nat :=
  let c0_i32_461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_460 : BitVec 32 := 1#32
  let v366 : BitVec 32 := Scalar.muli v4 c1_i32_460
  let v367 : BitVec 32 := Scalar.addi c0_i32_461 v366
  v367.toNat
def k0_dev18 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_472 : BitVec 32 := 1#32
  let v376 : BitVec 32 := Scalar.muli v7 c1_i32_472
  let v377 : BitVec 32 := Scalar.addi c0_i32_473 v376
  v377.toNat
def k0_dev19 (d0 : Dev nD) : Nat :=
  let c0_i32_538 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_537 : BitVec 32 := 1#32
  let v426 : BitVec 32 := Scalar.muli v7 c1_i32_537
  let v427 : BitVec 32 := Scalar.addi c0_i32_538 v426
  v427.toNat
def k0_dev20 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_540 : BitVec 32 := 1#32
  let v428 : BitVec 32 := Scalar.muli v4 c1_i32_540
  let v429 : BitVec 32 := Scalar.addi c0_i32_541 v428
  v429.toNat
def k0_dev21 (d0 : Dev nD) : Nat :=
  let c0_i32_553 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_552 : BitVec 32 := 1#32
  let v430 : BitVec 32 := Scalar.muli v4 c1_i32_552
  let v431 : BitVec 32 := Scalar.addi c0_i32_553 v430
  v431.toNat
def k0_dev22 (d0 : Dev nD) : Nat :=
  let c0_i32_565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_564 : BitVec 32 := 1#32
  let v440 : BitVec 32 := Scalar.muli v7 c1_i32_564
  let v441 : BitVec 32 := Scalar.addi c0_i32_565 v440
  v441.toNat
def k0_dev23 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_629 : BitVec 32 := 1#32
  let v490 : BitVec 32 := Scalar.muli v7 c1_i32_629
  let v491 : BitVec 32 := Scalar.addi c0_i32_630 v490
  v491.toNat
def k0_dev24 (d0 : Dev nD) : Nat :=
  let c0_i32_633 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_632 : BitVec 32 := 1#32
  let v492 : BitVec 32 := Scalar.muli v4 c1_i32_632
  let v493 : BitVec 32 := Scalar.addi c0_i32_633 v492
  v493.toNat
def k0_dev25 (d0 : Dev nD) : Nat :=
  let c0_i32_645 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_644 : BitVec 32 := 1#32
  let v494 : BitVec 32 := Scalar.muli v4 c1_i32_644
  let v495 : BitVec 32 := Scalar.addi c0_i32_645 v494
  v495.toNat
def k0_dev26 (d0 : Dev nD) : Nat :=
  let c0_i32_657 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_656 : BitVec 32 := 1#32
  let v504 : BitVec 32 := Scalar.muli v7 c1_i32_656
  let v505 : BitVec 32 := Scalar.addi c0_i32_657 v504
  v505.toNat
def k0_dev27 (d0 : Dev nD) : Nat :=
  let c0_i32_774 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_773 : BitVec 32 := 1#32
  let v586 : BitVec 32 := Scalar.muli v4 c1_i32_773
  let v587 : BitVec 32 := Scalar.addi c0_i32_774 v586
  v587.toNat
def k0_dev28 (d0 : Dev nD) : Nat :=
  let c0_i32_785 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_784 : BitVec 32 := 1#32
  let v595 : BitVec 32 := Scalar.muli v7 c1_i32_784
  let v596 : BitVec 32 := Scalar.addi c0_i32_785 v595
  v596.toNat
def k0_dev29 (d0 : Dev nD) : Nat :=
  let c0_i32_854 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_853 : BitVec 32 := 1#32
  let v644 : BitVec 32 := Scalar.muli v4 c1_i32_853
  let v645 : BitVec 32 := Scalar.addi c0_i32_854 v644
  v645.toNat
def k0_dev30 (d0 : Dev nD) : Nat :=
  let c0_i32_865 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_864 : BitVec 32 := 1#32
  let v653 : BitVec 32 := Scalar.muli v7 c1_i32_864
  let v654 : BitVec 32 := Scalar.addi c0_i32_865 v653
  v654.toNat
def k0_dev31 (d0 : Dev nD) : Nat :=
  let c0_i32_933 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_932 : BitVec 32 := 1#32
  let v702 : BitVec 32 := Scalar.muli v4 c1_i32_932
  let v703 : BitVec 32 := Scalar.addi c0_i32_933 v702
  v703.toNat
def k0_dev32 (d0 : Dev nD) : Nat :=
  let c0_i32_944 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_943 : BitVec 32 := 1#32
  let v711 : BitVec 32 := Scalar.muli v7 c1_i32_943
  let v712 : BitVec 32 := Scalar.addi c0_i32_944 v711
  v712.toNat
def k0_dev33 (d0 : Dev nD) : Nat :=
  let c0_i32_1013 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1012 : BitVec 32 := 1#32
  let v760 : BitVec 32 := Scalar.muli v4 c1_i32_1012
  let v761 : BitVec 32 := Scalar.addi c0_i32_1013 v760
  v761.toNat
def k0_dev34 (d0 : Dev nD) : Nat :=
  let c0_i32_1024 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1023 : BitVec 32 := 1#32
  let v769 : BitVec 32 := Scalar.muli v7 c1_i32_1023
  let v770 : BitVec 32 := Scalar.addi c0_i32_1024 v769
  v770.toNat
def k0_dev35 (d0 : Dev nD) : Nat :=
  let c0_i32_1299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1298 : BitVec 32 := 1#32
  let v1005 : BitVec 32 := Scalar.muli v4 c1_i32_1298
  let v1006 : BitVec 32 := Scalar.addi c0_i32_1299 v1005
  v1006.toNat
def k0_dev36 (d0 : Dev nD) : Nat :=
  let c0_i32_1309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1308 : BitVec 32 := 1#32
  let v1015 : BitVec 32 := Scalar.muli v7 c1_i32_1308
  let v1016 : BitVec 32 := Scalar.addi c0_i32_1309 v1015
  v1016.toNat
def k0_dev37 (d0 : Dev nD) : Nat :=
  let c0_i32_1319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1292 : BitVec 32 := 2#32
  let v1003 : BitVec 32 := Scalar.addi v2 c2_i32_1292
  let c4_i32_1293 : BitVec 32 := 4#32
  let v1004 : BitVec 32 := Scalar.remsi v1003 c4_i32_1293
  let c1_i32_1318 : BitVec 32 := 1#32
  let v1025 : BitVec 32 := Scalar.muli v1004 c1_i32_1318
  let v1026 : BitVec 32 := Scalar.addi c0_i32_1319 v1025
  v1026.toNat
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Segments.lean ====
/-
  The kernel's body as a composition of a few segments, each a function of the direction of the ring it
  serves, the hop and the strip of columns: computing a strip, sending it on, receiving and accumulating,
  and, at the end, the exchange of the maxima and the quantisation. `body_eq` says the printed body is
  the composition; every later module reasons about the segments alone.
-/
module

public import proofs.«01_k».proof.Proof.Gen.KernelIdeal.Points
public import proofs.«01_k».proof.Proof.Gen.KernelIdeal.Launch

@[expose] public section

noncomputable section

namespace Cert.KernelIdeal.Body

open Cert.KernelIdeal Cert.KernelIdeal.Gen
open Idealize.ShloMosaic Idealize.ShloMosaic.TcCoe Idealize.SL.Sem

variable {F : FTy → Type} [FloatOps F]

/-- The operations of a device's core. -/
abbrev Eff (F : FTy → Type) : Type → Type := TpuEff nD τ sig (Elt F) Λ₀ .tc

/-! ## The buffers and their tiles -/

abbrev xA : Memref sig .tc .hbm S4096x1024 .f32 := Memref.whole main_arg0
abbrev wA : Memref sig .tc .hbm S1024x2048 .f32 := Memref.whole main_arg1
abbrev oA : Memref sig .tc .hbm S1024x2048 .f32 := Memref.whole main_v1
abbrev xM : Memref sig .tc .vmem S4x1024x1024 .f32 := Memref.whole cc0_scratch0
abbrev wM : Memref sig .tc .vmem S1024x2048 .f32 := Memref.whole cc0_scratch1
abbrev yM : Memref sig .tc .vmem S1024x2048 .f32 := Memref.whole cc0_scratch2
abbrev aM : Memref sig .tc .vmem S4x8x128 .f32 := Memref.whole cc0_scratch5

/-- The accumulators in transit of the two rings: to the right (`true`) and to the left. -/
def cM : Bool → Memref sig .tc .vmem S2x1024x1024 .f32
  | true => Memref.whole cc0_scratch3
  | false => Memref.whole cc0_scratch4

theorem inbX (k : Fin 4) : ∀ a, (![k.val, 0, 0] : Fin 3 → Nat) a + S1x1024x1024.size a ≤ S4x1024x1024.size a := by
  revert k; decide
theorem inbC (b : Fin 2) (s : Fin 4) :
    ∀ a, (![b.val, 0, 256 * s.val] : Fin 3 → Nat) a + S1x1024x256.size a ≤ S2x1024x1024.size a := by
  revert b s; decide
theorem inbQ (q : Fin 8) : ∀ a, (![0, 256 * q.val] : Fin 2 → Nat) a + S1024x256.size a ≤ S1024x2048.size a := by
  revert q; decide
theorem inbH (j : Fin 4) : ∀ a, (![0, 512 * j.val] : Fin 2 → Nat) a + S1024x512.size a ≤ S1024x2048.size a := by
  revert j; decide
theorem inbA (j : Fin 4) : ∀ a, (![j.val, 0, 0] : Fin 3 → Nat) a + S1x8x128.size a ≤ S4x8x128.size a := by
  revert j; decide
theorem inbA1 (j : Fin 4) : ∀ a, (![j.val, 0, 0] : Fin 3 → Nat) a + S1x1x1.size a ≤ S4x8x128.size a := by
  revert j; decide

abbrev xRect (k : Fin 4) : Rect S4x1024x1024 := Rect.unit ![k.val, 0, 0] S1x1024x1024.size (inbX k)
abbrev cRect (b : Fin 2) (s : Fin 4) : Rect S2x1024x1024 := Rect.unit ![b.val, 0, 256 * s.val] S1x1024x256.size (inbC b s)
abbrev qRect (q : Fin 8) : Rect S1024x2048 := Rect.unit ![0, 256 * q.val] S1024x256.size (inbQ q)
abbrev hRect (j : Fin 4) : Rect S1024x2048 := Rect.unit ![0, 512 * j.val] S1024x512.size (inbH j)
abbrev aRect (j : Fin 4) : Rect S4x8x128 := Rect.unit ![j.val, 0, 0] S1x8x128.size (inbA j)
abbrev a1Rect (j : Fin 4) : Rect S4x8x128 := Rect.unit ![j.val, 0, 0] S1x1x1.size (inbA1 j)

/-- Slot `k` of the buffer of chunks of `x`. -/
abbrev xT (k : Fin 4) : Memref sig .tc .vmem S1024x1024 .f32 :=
  (xM.slice (xRect k) (fun _ => rfl)).squeeze S1024x1024 squeezes_S1x1024x1024_S1024x1024
/-- Strip `s` of slot `b` of a ring's accumulators. -/
abbrev cT (d : Bool) (b : Fin 2) (s : Fin 4) : Memref sig .tc .vmem S1024x256 .f32 :=
  ((cM d).slice (cRect b s) (fun _ => rfl)).squeeze S1024x256 squeezes_S1x1024x256_S1024x256
/-- Strip `q` of the result in the making. -/
abbrev yT (q : Fin 8) : Memref sig .tc .vmem S1024x256 .f32 := yM.slice (qRect q) (fun _ => rfl)
/-- Quarter `j` of the result in the making, of the weights, and of the result. -/
abbrev yH (j : Fin 4) : Memref sig .tc .vmem S1024x512 .f32 := yM.slice (hRect j) (fun _ => rfl)
abbrev wH (j : Fin 4) : Memref sig .tc .vmem S1024x512 .f32 := wM.slice (hRect j) (fun _ => rfl)
abbrev wS (j : Fin 4) : Memref sig .tc .hbm S1024x512 .f32 := wA.slice (hRect j) (fun _ => rfl)
abbrev oT (j : Fin 4) : Memref sig .tc .hbm S1024x512 .f32 := oA.slice (hRect j) (fun _ => rfl)
/-- Slot `j` of the maxima: the device's own, then its three peers'. -/
abbrev aT (j : Fin 4) : Memref sig .tc .vmem S8x128 .f32 :=
  (aM.slice (aRect j) (fun _ => rfl)).squeeze S8x128 squeezes_S1x8x128_S8x128

/-- The chunk of `x` copied into slot `k`. -/
def xOff (c : Dev nD) : Fin 4 → (Fin 2 → Nat)
  | 0 => k0_off1 c 3#32
  | 1 => k0_off1 c 1#32
  | 2 => k0_off1 c 2#32
  | 3 => k0_off2 c
theorem xOff_inb (c : Dev nD) (k : Fin 4) : ∀ a, xOff c k a + S1024x1024.size a ≤ S4096x1024.size a :=
  match k with
  | 0 => k0_off1_inb c 2
  | 1 => k0_off1_inb c 0
  | 2 => k0_off1_inb c 1
  | 3 => k0_off2_inb c
abbrev xS (c : Dev nD) (k : Fin 4) : Memref sig .tc .hbm S1024x1024 .f32 :=
  xA.slice (Rect.unit (xOff c k) S1024x1024.size (xOff_inb c k)) (fun _ => rfl)

/-- The strip of the result that strip `s` of a ring makes. -/
def qOf : Bool → Fin 4 → Fin 8
  | true, s => ⟨s.val, by omega⟩
  | false, s => ⟨4 + s.val, by omega⟩

/-- Where hop `h` reads and lands. -/
def srcT (d : Bool) : Fin 3 → Fin 4 → Memref sig .tc .vmem S1024x256 .f32
  | 0, s => cT d 0 s
  | 1, s => cT d 1 s
  | 2, s => cT d 0 s
def dstT (d : Bool) : Fin 3 → Fin 4 → Memref sig .tc .vmem S1024x256 .f32
  | 0, s => cT d 1 s
  | 1, s => cT d 0 s
  | 2, s => yT (qOf d s)

theorem srcT_exact (d : Bool) (h : Fin 3) (s : Fin 4) : (srcT d h s).view.WordExact := View.wordExact_bits rfl
theorem dstT_exact (d : Bool) (h : Fin 3) (s : Fin 4) : (dstT d h s).view.WordExact := View.wordExact_bits rfl
theorem dstT_scratch (d : Bool) (h : Fin 3) (s : Fin 4) : (dstT d h s).view.ref.isScScratch = false := by
  revert d h s; decide

/-! ## The semaphores -/

def dsem (n : Nat) (h : n < 66) : DmaSem sig := ⟨n, h⟩
def xSem (k : Fin 4) : DmaSem sig := dsem (k.val) (by omega)
def wSem (j : Fin 4) : DmaSem sig := dsem (4 + j.val) (by omega)
def oSem (j : Fin 4) : DmaSem sig := dsem (8 + j.val) (by omega)
def sSem : Bool → Fin 3 → Fin 4 → DmaSem sig
  | true, h, s => dsem (12 + (4 * h.val + s.val)) (by omega)
  | false, h, s => dsem (36 + (4 * h.val + s.val)) (by omega)
def rSem : Bool → Fin 3 → Fin 4 → DmaSem sig
  | true, h, s => dsem (24 + (4 * h.val + s.val)) (by omega)
  | false, h, s => dsem (48 + (4 * h.val + s.val)) (by omega)
def saSem (j : Fin 3) : DmaSem sig := dsem (60 + j.val) (by omega)
def raSem (j : Fin 3) : DmaSem sig := dsem (63 + j.val) (by omega)
def cSem : Bool → Sem sig
  | true => cc0_scratch15.sem
  | false => cc0_scratch16.sem
def bSem : Sem sig := (SemArray.scalar (sig.barrier 0 rfl) : Sems sig S_).sem

/-! ## Values -/

/-- The product of a chunk of `x`, as loaded, and a strip of the weights. -/
def mm (x : Vec F S1x1024x1024 .f32) (w : Vec F S1024x256 .f32) : FVec F S1024x256 .f32 :=
  matmul dot_S1024x1024_S1024x256_S1024x256_1_0_0_1_n_n none (shapeCast S1024x1024 x shapeCasts_S1x1024x1024_S1024x1024) w
    (constant S1024x256 .f32 0x00000000#32)
def up (v : FVec F S1024x256 .f32) : FVec F S1x1024x256 .f32 := shapeCast S1x1024x256 v shapeCasts_S1024x256_S1x1024x256
def down (v : Vec F S1x1024x256 .f32) : FVec F S1024x256 .f32 := shapeCast S1024x256 v shapeCasts_S1x1024x256_S1024x256
/-- The largest magnitude of a strip. -/
def amx (v : FVec F S1024x256 .f32) : F .f32 :=
  extractAt ![0, 0, 0] (shapeCast S1x1x1 (multiReduction .maximumf [1, 2] S1
    (shapeCast S1x1024x256 (absf v) shapeCasts_S1024x256_S1x1024x256) 0xFF800000#32 reduces_S1x1024x256_S1 (.inl rfl) rfl)
    shapeCasts_S1_S1x1x1) inpos_S1x1x1_p0_0_0
/-- The running maximum after one more strip of each ring. -/
def amxStep (m : F .f32) (p : FVec F S1024x256 .f32 × FVec F S1024x256 .f32) : F .f32 :=
  Scalar.maximumf m (Scalar.maximumf (amx p.1) (amx p.2))
def zero32 : F .f32 := Scalar.ofBits .f32 0x00000000#32
def amxAll (m : F .f32) : FVec F S1x8x128 .f32 := shapeCast S1x8x128 (broadcast S8x128 m) shapeCasts_S8x128_S1x8x128
def at0 (v : Vec F S1x1x1 .f32) : F .f32 := extractAt ![0, 0, 0] v inpos_S1x1x1_p0_0_0
def scaleOf (a b c d : F .f32) : F .f32 :=
  Scalar.divf (Scalar.maximumf (Scalar.maximumf (Scalar.maximumf a b) c) d) (Scalar.ofBits .f32 0x43E00000#32)
/-- A quarter of the result, quantised at a scale. -/
def quant (sc : F .f32) (y : Vec F S1024x512 .f32) : FVec F S1024x512 .f32 :=
  shapeCast S1024x512 (mulf (extf .f32 (truncf .fp8e4m3 (minimumf (broadcast S1024x512 (Scalar.ofBits .f32 0x43E00000#32))
    (maximumf (broadcast S1024x512 (Scalar.ofBits .f32 0xC3E00000#32)) (divf y (broadcast S1024x512 sc)))) bitsLt_fp8e4m3_f32)
    bitsLt_fp8e4m3_f32) (broadcast S1024x512 sc)) shapeCasts_S1024x512_S1024x512

/-! ## The segments -/

abbrev ldX (k : Fin 4) : Prog (Eff F) (Vec F S1x1024x1024 .f32) :=
  Prog.lift (.load xM (xRect k).toLoadRect (View.loadsAt_vmem h_S1x1024x1024))
abbrev ldW (q : Fin 8) : Prog (Eff F) (Vec F S1024x256 .f32) :=
  Prog.lift (.load wM (qRect q).toLoadRect (View.loadsAt_vmem h_S1024x256))
abbrev ldC (d : Bool) (b : Fin 2) (s : Fin 4) : Prog (Eff F) (Vec F S1x1024x256 .f32) :=
  Prog.lift (.load (cM d) (cRect b s).toLoadRect (View.loadsAt_vmem h_S1x1024x256))
abbrev stC (d : Bool) (b : Fin 2) (s : Fin 4) (v : FVec F S1x1024x256 .f32) : Prog (Eff F) PUnit :=
  Prog.lift (.store (cM d) (cRect b s) v Finset.univ (View.stores_vmem_bits_univ h_S1x1024x256 rfl) (.inl rfl))
abbrev ldY (q : Fin 8) : Prog (Eff F) (Vec F S1024x256 .f32) :=
  Prog.lift (.load yM (qRect q).toLoadRect (View.loadsAt_vmem h_S1024x256))
abbrev stY (q : Fin 8) (v : FVec F S1024x256 .f32) : Prog (Eff F) PUnit :=
  Prog.lift (.store yM (qRect q) v Finset.univ (View.stores_vmem_bits_univ h_S1024x256 rfl) (.inl rfl))

def cpW (j : Fin 4) : Prog (Eff F) PUnit :=
  Prog.lift (.enqueueDma (wS j) (.here (wH j)) (.dma (wSem j)) (View.wordExact_bits rfl) (View.wordExact_bits rfl) ⟨Or.inl rfl, trivial⟩)
def cpX (c : Dev nD) (k : Fin 4) : Prog (Eff F) PUnit :=
  Prog.lift (.enqueueDma (xS c k) (.here (xT k)) (.dma (xSem k)) (View.wordExact_bits rfl) (View.wordExact_bits rfl) ⟨Or.inl rfl, trivial⟩)
def wtW (j : Fin 4) : Prog (Eff F) PUnit :=
  Prog.lift (.waitDma2 (wSem j) (wS j) (wH j) (View.wordExact_bits rfl) (View.wordExact_bits rfl))
def wtX (c : Dev nD) (k : Fin 4) : Prog (Eff F) PUnit :=
  Prog.lift (.waitDma2 (xSem k) (xS c k) (xT k) (View.wordExact_bits rfl) (View.wordExact_bits rfl))

/-- One product. -/
def part (k : Fin 4) (q : Fin 8) : Prog (Eff F) (FVec F S1024x256 .f32) := do
  let x ← ldX k
  let w ← ldW q
  pure (mm x w)
/-- The first product of a strip, into the ring's accumulator. -/
def produce (d : Bool) (s : Fin 4) : Prog (Eff F) PUnit := do
  let v ← part (bif d then 0 else 1) (qOf d s)
  let _ ← ldC d 0 s
  stC d 0 s (up v)
/-- The accumulator that arrived, with the device's own product added. -/
def addIn (d : Bool) (b : Fin 2) (s : Fin 4) (v : FVec F S1024x256 .f32) : Prog (Eff F) PUnit := do
  let a ← ldC d b s
  let _ ← ldC d b s
  stC d b s (up (addf (down a) v))
def send (d : Bool) (h : Fin 3) (s : Fin 4) (t : Dev nD) : Prog (Eff F) PUnit :=
  Prog.lift (.enqueueDma (srcT d h s) (.remote (Dev.tc t) (dstT d h s) (.dma (sSem d h s)) (dstT_scratch d h s)) (.dma (rSem d h s))
    (srcT_exact d h s) (dstT_exact d h s) ⟨⟨rfl, Or.inl rfl⟩, trivial⟩)
def wtR (d : Bool) (h : Fin 3) (s : Fin 4) : Prog (Eff F) PUnit :=
  Prog.lift (.waitDma2 (rSem d h s) (srcT d h s) (dstT d h s) (srcT_exact d h s) (dstT_exact d h s))
def wtS (d : Bool) (h : Fin 3) (s : Fin 4) : Prog (Eff F) PUnit :=
  Prog.lift (.waitDma2 (sSem d h s) (dstT d h s) (srcT d h s) (dstT_exact d h s) (srcT_exact d h s))
def sgC (d : Bool) (t : Dev nD) : Prog (Eff F) PUnit := semSignalWord t (cSem d) 1#32
def wtC (d : Bool) : Prog (Eff F) PUnit := semWaitWord (cSem d) 1#32
/-- The last sums of a strip of each ring, into the result in the making. -/
def addLast (s : Fin 4) (v : FVec F S1024x256 .f32 × FVec F S1024x256 .f32) :
    Prog (Eff F) (FVec F S1024x256 .f32 × FVec F S1024x256 .f32) := do
  let a ← ldY (qOf true s)
  let b ← ldY (qOf false s)
  let _ ← ldY (qOf true s)
  stY (qOf true s) (shapeCast S1024x256 (addf a v.1) shapeCasts_S1024x256_S1024x256)
  let _ ← ldY (qOf false s)
  stY (qOf false s) (shapeCast S1024x256 (addf b v.2) shapeCasts_S1024x256_S1024x256)
  pure (addf a v.1, addf b v.2)

def stA (v : FVec F S1x8x128 .f32) : Prog (Eff F) PUnit := do
  let _ ← Prog.lift (.load aM (aRect 0).toLoadRect (View.loadsAt_vmem h_S1x8x128))
  Prog.lift (.store aM (aRect 0) v Finset.univ (View.stores_vmem_bits_univ h_S1x8x128 rfl) (.inl rfl))
def sendA (j : Fin 3) (t : Dev nD) : Prog (Eff F) PUnit :=
  Prog.lift (.enqueueDma (aT 0) (.remote (Dev.tc t) (aT j.succ) (.dma (saSem j))) (.dma (raSem j))
    (View.wordExact_bits rfl) (View.wordExact_bits rfl) ⟨⟨rfl, Or.inl rfl⟩, trivial⟩)
def wtSA (j : Fin 3) : Prog (Eff F) PUnit :=
  Prog.lift (.waitDma2 (saSem j) (aT j.succ) (aT 0) (View.wordExact_bits rfl) (View.wordExact_bits rfl))
def wtRA (j : Fin 3) : Prog (Eff F) PUnit :=
  Prog.lift (.waitDma2 (raSem j) (aT 0) (aT j.succ) (View.wordExact_bits rfl) (View.wordExact_bits rfl))
def ldA (j : Fin 4) : Prog (Eff F) (F .f32) := do
  let v ← Prog.lift (.load aM (a1Rect j).toLoadRect (View.loadsAt_vmem h_S1x1x1))
  pure (at0 v)
/-- A quarter of the result quantised, and on its way out. -/
def out (sc : F .f32) (j : Fin 4) : Prog (Eff F) PUnit := do
  let y ← Prog.lift (.load yM (hRect j).toLoadRect (View.loadsAt_vmem h_S1024x512))
  let _ ← Prog.lift (.load yM (hRect j).toLoadRect (View.loadsAt_vmem h_S1024x512))
  Prog.lift (.store yM (hRect j) (quant sc y) Finset.univ (View.stores_vmem_bits_univ h_S1024x512 rfl) (.inl rfl))
  Prog.lift (.enqueueDma (yH j) (.here (oT j)) (.dma (oSem j)) (View.wordExact_bits rfl) (View.wordExact_bits rfl) ⟨Or.inl rfl, trivial⟩)
def wtO (j : Fin 4) : Prog (Eff F) PUnit :=
  Prog.lift (.waitDma2 (oSem j) (yH j) (oT j) (View.wordExact_bits rfl) (View.wordExact_bits rfl))

/-- The products of one hop: for each ring its four strips, from slots `a` and `b` of the chunks. -/
def parts (a b : Fin 4) : Prog (Eff F) ((Fin 4 → FVec F S1024x256 .f32) × (Fin 4 → FVec F S1024x256 .f32)) := do
  let r0 ← part a (qOf true 0)
  let r1 ← part a (qOf true 1)
  let r2 ← part a (qOf true 2)
  let r3 ← part a (qOf true 3)
  let l0 ← part b (qOf false 0)
  let l1 ← part b (qOf false 1)
  let l2 ← part b (qOf false 2)
  let l3 ← part b (qOf false 3)
  pure (![r0, r1, r2, r3], ![l0, l1, l2, l3])

/-- Receive a strip of each ring and add to it. -/
def recvAdd (h : Fin 3) (b : Fin 2) (s : Fin 4) (vR vL : FVec F S1024x256 .f32) : Prog (Eff F) PUnit := do
  wtR true h s
  wtR false h s
  addIn true b s vR
  addIn false b s vL
  wtS true h s
  wtS false h s

/-- The middle of the first hop for strip `s`: receive, add, grant the freed slot, and once granted send on. -/
def mid0 (r l : Dev nD) (s : Fin 4) (vR vL : FVec F S1024x256 .f32) : Prog (Eff F) PUnit := do
  recvAdd 0 1 s vR vL
  sgC true l
  sgC false r
  wtC true
  wtC false
  send true 1 s r
  send false 1 s l
def mid1 (r l : Dev nD) (s : Fin 4) (vR vL : FVec F S1024x256 .f32) : Prog (Eff F) PUnit := do
  recvAdd 1 0 s vR vL
  send true 2 s r
  send false 2 s l
def last (s : Fin 4) (vR vL : FVec F S1024x256 .f32) (m : F .f32) : Prog (Eff F) (F .f32) := do
  wtR true 2 s
  wtR false 2 s
  let p ← addLast s (vR, vL)
  wtS true 2 s
  wtS false 2 s
  pure (amxStep m p)

def prologue (c r l : Dev nD) : Prog (Eff F) PUnit := do
  cpW 0
  cpX c 0
  cpW 2
  cpX c 1
  cpW 1
  cpW 3
  cpX c 2
  cpX c 3
  semSignalWord l bSem 1#32
  semSignalWord r bSem 1#32
  semWaitWord bSem 2#32

def firsts (c r l : Dev nD) : Prog (Eff F) PUnit := do
  wtW 0
  wtX c 0
  produce true 0
  wtW 2
  wtX c 1
  produce false 0
  send true 0 0 r
  send false 0 0 l
  produce true 1
  produce false 1
  send true 0 1 r
  send false 0 1 l
  wtW 1
  produce true 2
  wtW 3
  produce false 2
  send true 0 2 r
  send false 0 2 l
  produce true 3
  produce false 3
  send true 0 3 r
  send false 0 3 l

def hop0 (c r l : Dev nD) : Prog (Eff F) PUnit := do
  wtX c 2
  let v ← parts 2 2
  mid0 r l 0 (v.1 0) (v.2 0)
  mid0 r l 1 (v.1 1) (v.2 1)
  mid0 r l 2 (v.1 2) (v.2 2)
  mid0 r l 3 (v.1 3) (v.2 3)

def hop1 (r l : Dev nD) : Prog (Eff F) PUnit := do
  let v ← parts 1 0
  mid1 r l 0 (v.1 0) (v.2 0)
  mid1 r l 1 (v.1 1) (v.2 1)
  mid1 r l 2 (v.1 2) (v.2 2)
  mid1 r l 3 (v.1 3) (v.2 3)

def hop2 (c : Dev nD) : Prog (Eff F) (F .f32) := do
  wtX c 3
  let v ← parts 3 3
  let m0 ← last 0 (v.1 0) (v.2 0) zero32
  let m1 ← last 1 (v.1 1) (v.2 1) m0
  let m2 ← last 2 (v.1 2) (v.2 2) m1
  last 3 (v.1 3) (v.2 3) m2

def maxima (r l o : Dev nD) (m : F .f32) : Prog (Eff F) (F .f32) := do
  stA (amxAll m)
  sendA 0 r
  sendA 1 l
  sendA 2 o
  wtSA 0
  wtRA 0
  wtSA 1
  wtRA 1
  wtSA 2
  wtRA 2
  let m0 ← ldA 0
  let m1 ← ldA 1
  let m2 ← ldA 2
  let m3 ← ldA 3
  pure (scaleOf m0 m1 m2 m3)

def outs (sc : F .f32) : Prog (Eff F) PUnit := do
  out sc 0
  out sc 1
  out sc 2
  out sc 3
  wtO 0
  wtO 1
  wtO 2
  wtO 3

/-- The whole body, the neighbours to the right and to the left and the device opposite given. -/
def whole (c r l o : Dev nD) : Prog (Eff F) PUnit := do
  prologue c r l
  firsts c r l
  hop0 c r l
  hop1 r l
  let m ← hop2 c
  let sc ← maxima r l o m
  outs sc

theorem body_eq (t : Fin cfg0.N) : (bodyAt0 (F := F) t)
    = (Prog.lift .deviceId >>= fun c => whole c ⟨k0_dev2 c, k0_dev2_lt c⟩ ⟨k0_dev1 c, k0_dev1_lt c⟩ ⟨k0_dev37 c, k0_dev37_lt c⟩) := by
  chain_rfl

end Cert.KernelIdeal.Body

end
-- ==== Proof.Protocol.lean ====
/-
  The protocol: the ring, the semaphore cells, what a device owes, the levels, the contents each
  transfer carries, and the schedule of every cell (who pays it, how much, and what a landing hands over).
  Every cell has one round.
-/
module

public import proofs.«01_k».proof.Proof.Segments
public import Idealize.ShloMosaic.Lib.Rounds
public import Idealize.ShloMosaic.Lib.Release
public import Idealize.ShloMosaic.Lib.Memref
public import Idealize.ShloMosaic.Lib.Pipeline.Launch
public import Idealize.ShloMosaic.Lib.Pipeline.Kit

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-- A slot whose release the writer must hear of: the device, the ring and the strip. -/
abbrev Key : Type := Dev nD × Bool × Fin 4
abbrev UB : Type := URounds (GSem nD τ sig) ℕ × USlots Key
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) :=
  (Emb.inl : Emb (URounds (GSem nD τ sig) ℕ) UB).trans embR
abbrev ES : Emb (USlots Key) (MT nD τ sig ℕ (Elt F) ℕ UU ℕ) := (Emb.inr : Emb (USlots Key) UB).trans embR

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
def dia (c : Dev nD) : Dev nD := ⟨(c.val + 2) % 4, Nat.mod_lt _ (by decide)⟩
/-- The neighbour a ring's data goes to. -/
def tow : Bool → Dev nD → Dev nD
  | true => nxt
  | false => prv
/-- The device slot `j` of the maxima is sent to, and the one it comes from. -/
def aTo : Fin 3 → Dev nD → Dev nD
  | 0 => nxt
  | 1 => prv
  | 2 => dia
def aFrom : Fin 3 → Dev nD → Dev nD
  | 0 => prv
  | 1 => nxt
  | 2 => dia

theorem tow_tow (d : Bool) (c : Dev nD) : tow (!d) (tow d c) = c := by revert d c; decide
theorem tow_tow' (d : Bool) (c : Dev nD) : tow d (tow (!d) c) = c := by revert d c; decide
theorem aFrom_aTo (j : Fin 3) (c : Dev nD) : aFrom j (aTo j c) = c := by revert j c; decide
theorem aTo_aFrom (j : Fin 3) (c : Dev nD) : aTo j (aFrom j c) = c := by revert j c; decide

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev37_eq (c : Dev nD) : (⟨k0_dev37 c, k0_dev37_lt c⟩ : Dev nD) = dia c := by revert c; decide

/-! ## The cells -/

/-- The semaphores of a device: the barrier; of each ring, hop and strip the send and the receive; of each ring the
    credits; of each slot of the maxima the send and the receive; of the local copies of `x`, `w` and the result. -/
inductive CellK
  | bar
  | snd (d : Bool) (h : Fin 3) (s : Fin 4)
  | rcv (d : Bool) (h : Fin 3) (s : Fin 4)
  | crd (d : Bool)
  | sndA (j : Fin 3)
  | rcvA (j : Fin 3)
  | xc (k : Fin 4)
  | wc (k : Fin 4)
  | oc (k : Fin 4)
  deriving DecidableEq

abbrev HopIx : Type := Bool × Fin 4 × Fin 3
abbrev CellSum : Type := Unit ⊕ HopIx ⊕ HopIx ⊕ Bool ⊕ Fin 3 ⊕ Fin 3 ⊕ Fin 4 ⊕ Fin 4 ⊕ Fin 4

def cellEquiv : CellSum ≃ CellK where
  toFun
    | .inl _ => .bar
    | .inr (.inl (d, s, h)) => .snd d h s
    | .inr (.inr (.inl (d, s, h))) => .rcv d h s
    | .inr (.inr (.inr (.inl d))) => .crd d
    | .inr (.inr (.inr (.inr (.inl j)))) => .sndA j
    | .inr (.inr (.inr (.inr (.inr (.inl j))))) => .rcvA j
    | .inr (.inr (.inr (.inr (.inr (.inr (.inl k)))))) => .xc k
    | .inr (.inr (.inr (.inr (.inr (.inr (.inr (.inl k))))))) => .wc k
    | .inr (.inr (.inr (.inr (.inr (.inr (.inr (.inr k))))))) => .oc k
  invFun
    | .bar => .inl ()
    | .snd d h s => .inr (.inl (d, s, h))
    | .rcv d h s => .inr (.inr (.inl (d, s, h)))
    | .crd d => .inr (.inr (.inr (.inl d)))
    | .sndA j => .inr (.inr (.inr (.inr (.inl j))))
    | .rcvA j => .inr (.inr (.inr (.inr (.inr (.inl j)))))
    | .xc k => .inr (.inr (.inr (.inr (.inr (.inr (.inl k))))))
    | .wc k => .inr (.inr (.inr (.inr (.inr (.inr (.inr (.inl k)))))))
    | .oc k => .inr (.inr (.inr (.inr (.inr (.inr (.inr (.inr k)))))))
  left_inv := by rintro (_ | ⟨_, _, _⟩ | ⟨_, _, _⟩ | _ | _ | _ | _ | _ | _) <;> rfl
  right_inv := by rintro (_ | _ | _ | _ | _ | _ | _ | _ | _) <;> rfl

instance : Fintype CellK := Fintype.ofEquiv CellSum cellEquiv

/-- The semaphore of a cell. -/
def loc : CellK → SemLoc sig
  | .bar => .reg bSem
  | .snd d h s => .dma (sSem d h s)
  | .rcv d h s => .dma (rSem d h s)
  | .crd d => .reg (cSem d)
  | .sndA j => .dma (saSem j)
  | .rcvA j => .dma (raSem j)
  | .xc k => .dma (xSem k)
  | .wc k => .dma (wSem k)
  | .oc k => .dma (oSem k)

abbrev cell (c : Dev nD) (k : CellK) : GSem nD τ sig := ((c : Thread nD τ), loc k)

/-- The semaphores by their numbers: three regular, sixty-six of transfers. -/
def num : SemLoc sig → ℕ
  | .dma q => q.val
  | .reg q => 66 + q.val

theorem num_inj : Function.Injective (fun k => num (loc k)) := by
  have key : ∀ k, num (loc k) = (match k with
      | .bar => 66 + bSem.val
      | .snd true h s => 12 + (4 * h.val + s.val)
      | .snd false h s => 36 + (4 * h.val + s.val)
      | .rcv true h s => 24 + (4 * h.val + s.val)
      | .rcv false h s => 48 + (4 * h.val + s.val)
      | .crd d => 66 + (cSem d).val
      | .sndA j => 60 + j.val
      | .rcvA j => 63 + j.val
      | .xc k => k.val
      | .wc k => 4 + k.val
      | .oc k => 8 + k.val) := by
    rintro (_ | ⟨_ | _, h, s⟩ | ⟨_ | _, h, s⟩ | _ | _ | _ | _ | _ | _) <;> rfl
  have hb : bSem.val ≠ (cSem true).val ∧ bSem.val ≠ (cSem false).val ∧ (cSem true).val ≠ (cSem false).val := by decide
  intro a b hab
  simp only [key] at hab
  rcases a with (_ | ⟨_ | _, h, s⟩ | ⟨_ | _, h, s⟩ | ⟨_ | _⟩ | _ | _ | _ | _ | _) <;>
  rcases b with (_ | ⟨_ | _, h', s'⟩ | ⟨_ | _, h', s'⟩ | ⟨_ | _⟩ | _ | _ | _ | _ | _) <;>
  simp only [CellK.snd.injEq, CellK.rcv.injEq, CellK.crd.injEq, CellK.sndA.injEq, CellK.rcvA.injEq, CellK.xc.injEq,
    CellK.wc.injEq, CellK.oc.injEq, reduceCtorEq, true_and, false_and, Fin.ext_iff] at hab ⊢ <;> omega

theorem loc_inj : Function.Injective loc := fun _ _ h => num_inj (congrArg num h)

open Classical in
/-- The cell a semaphore is. -/
def dec (x : SemLoc sig) : Option CellK := if h : ∃ k, loc k = x then some h.choose else none

theorem dec_loc (k : CellK) : dec (loc k) = some k := by
  have h : ∃ k', loc k' = loc k := ⟨k, rfl⟩
  unfold dec; rw [dif_pos h]; exact congrArg some (loc_inj h.choose_spec)

theorem cell_inj : Function.Injective (fun x : Dev nD × CellK => cell x.1 x.2) := by
  rintro ⟨c, k⟩ ⟨c', k'⟩ h
  have h1 : c = c' := congrArg (fun g : GSem nD τ sig => g.1.1) h
  have h2 : k = k' := loc_inj (congrArg Prod.snd h)
  rw [h1, h2]

/-! ## Amounts -/

/-- The credit of a strip, of the maxima, of a chunk of `x`, of a quarter of the weights. -/
def NS : ℕ := (cT true 0 0).view.dmaCredit
def NA : ℕ := (aT 0).view.dmaCredit
def NX : ℕ := (xT 0).view.dmaCredit
def NW : ℕ := (wH 0).view.dmaCredit

theorem credS (d : Bool) (h : Fin 3) (s : Fin 4) : (srcT d h s).view.dmaCredit = NS := by
  match d, h with
  | true, 0 | true, 1 | true, 2 | false, 0 | false, 1 | false, 2 => rfl
theorem credD (d : Bool) (h : Fin 3) (s : Fin 4) : (dstT d h s).view.dmaCredit = NS := by
  match d, h with
  | true, 0 | true, 1 | true, 2 | false, 0 | false, 1 | false, 2 => rfl
theorem credA (j : Fin 4) : (aT j).view.dmaCredit = NA := rfl
theorem credX (k : Fin 4) : (xT k).view.dmaCredit = NX := rfl
theorem credW (k : Fin 4) : (wH k).view.dmaCredit = NW := rfl
theorem credO (k : Fin 4) : (oT k).view.dmaCredit = NW := rfl

theorem numel_pos {s : Shape} (h : ∀ a, 0 < s.size a) : 0 < s.numel :=
  (Fintype.card_pos_iff.mpr (⟨fun a => ⟨0, h a⟩⟩ : Nonempty s.Idx)).trans_eq (Shape.card_idx s)
theorem NS_pos : 0 < NS := View.dmaCredit_pos _ (numel_pos (by decide))
theorem NA_pos : 0 < NA := View.dmaCredit_pos _ (numel_pos (by decide))
theorem NX_pos : 0 < NX := View.dmaCredit_pos _ (numel_pos (by decide))
theorem NW_pos : 0 < NW := View.dmaCredit_pos _ (numel_pos (by decide))

def amt : CellK → ℕ
  | .bar | .crd _ => 1
  | .snd .. | .rcv .. => NS
  | .sndA _ | .rcvA _ => NA
  | .xc _ => NX
  | .wc _ | .oc _ => NW
/-- The number of duties of a cell. -/
def nd : CellK → ℕ
  | .bar => 2
  | .crd _ => 4
  | _ => 1

theorem amt_pos : ∀ k : CellK, 0 < amt k
  | .bar | .crd _ => Nat.one_pos
  | .snd .. | .rcv .. => NS_pos
  | .sndA _ | .rcvA _ => NA_pos
  | .xc _ => NX_pos
  | .wc _ | .oc _ => NW_pos

/-! ## What a device owes, and the levels -/

/-- A payment to another device's cell: the barrier signal, a strip's landing, a credit, the landing of a maximum. -/
inductive Item
  | bar (d : Bool)
  | rcv (d : Bool) (h : Fin 3) (s : Fin 4)
  | crd (d : Bool) (s : Fin 4)
  | amx (j : Fin 3)
  deriving DecidableEq

def Item.dev : Item → Dev nD → Dev nD
  | .bar d => tow d
  | .rcv d _ _ => tow d
  | .crd d _ => tow (!d)
  | .amx j => aTo j
def Item.inv : Item → Dev nD → Dev nD
  | .bar d => tow (!d)
  | .rcv d _ _ => tow (!d)
  | .crd d _ => tow d
  | .amx j => aFrom j
def Item.cell : Item → CellK
  | .bar _ => .bar
  | .rcv d h s => .rcv d h s
  | .crd d _ => .crd d
  | .amx j => .rcvA j
def Item.ix : Item → ℕ
  | .crd _ s => s.val
  | _ => 0

theorem Item.dev_inv (x : Item) (c : Dev nD) : x.dev (x.inv c) = c := by
  cases x <;> first | exact tow_tow' _ _ | exact tow_tow _ _ | exact aTo_aFrom _ _
theorem Item.inv_dev (x : Item) (c : Dev nD) : x.inv (x.dev c) = c := by
  cases x <;> first | exact tow_tow _ _ | exact tow_tow' _ _ | exact aFrom_aTo _ _

abbrev Item.tally (x : Item) (c : Dev nD) : CellTallies nD τ sig ℕ := tallyAt (Body.cell (x.dev c) x.cell) x.ix (amt x.cell)

/-- What device `c` owes while the payments `l` are still to be made, the next one first. -/
def owe (c : Dev nD) : List Item → CellTallies nD τ sig ℕ
  | [] => 0
  | x :: l => owe c l + x.tally c

def level : CellK → ℕ → ℕ
  | .bar, _ => 1
  | .rcv _ h _, _ => 15 + 10 * h.val - (if h = 0 then 10 else 5)
  | .crd _, i => 10 + i
  | .rcvA _, _ => 40
  | _, _ => 0

def L (g : GSem nD τ sig) : Finset ℕ := if g.1.2 = .tc then Finset.range 4 else ∅
def lv (g : GSem nD τ sig) (i : ℕ) : ℕ := match dec g.2 with
  | some k => level k i
  | none => 0

theorem L_of_ne (g : GSem nD τ sig) (h : g.1.2 ≠ .tc) : L g = ∅ := if_neg h
theorem mem_L (c : Dev nD) (k : CellK) (i : ℕ) (hi : i < 4) : i ∈ L (cell c k) := by
  unfold L; rw [if_pos rfl]; exact Finset.mem_range.mpr hi
theorem lv_cell (c : Dev nD) (k : CellK) (i : ℕ) : lv (cell c k) i = level k i := by
  unfold lv; rw [dec_loc]
theorem Item.ix_lt (x : Item) : x.ix < 4 := by cases x <;> simp only [Item.ix] <;> omega

theorem owe_pos {c : Dev nD} {l : List Item} {g : GSem nD τ sig} {i : ℕ} (h : 0 < owe c l g i) :
    ∃ x ∈ l, g = cell (x.dev c) x.cell ∧ i = x.ix := by
  induction l with
  | nil => exact absurd h (by simp [owe])
  | cons x l ih =>
    unfold owe at h
    rw [Pi.add_apply, Finsupp.add_apply, tallyAt_apply] at h
    by_cases hx : g = cell (x.dev c) x.cell ∧ i = x.ix
    · exact ⟨x, List.mem_cons_self, hx⟩
    · rw [if_neg hx, Nat.add_zero] at h
      obtain ⟨y, hy, h'⟩ := ih h
      exact ⟨y, List.mem_cons_of_mem _ hy, h'⟩

/-- A wait is allowed below everything still owed. -/
theorem mayWait (c : Dev nD) (k : CellK) (i : ℕ) (hi : i < 4) (l : List Item) (hl : ∀ x ∈ l, level k i < level x.cell x.ix) :
    (levAts L lv : sProp 𝕄) ⊢ MayWait (c : Thread nD τ) (loc k) i (owe c l) :=
  Pipeline.mayWait_of_levAts (mem_L c k i hi) fun g i' h => by
    obtain ⟨x, hx, rfl, rfl⟩ := owe_pos h
    exact ⟨mem_L _ _ _ x.ix_lt, by rw [lv_cell, lv_cell]; exact hl x hx⟩

/-! ## Contents -/

variable (m : (ℓ : Loc nD τ sig) → Buf (Elt F) ℓ)

/-- The device's blocks of the arguments. -/
def A0 (c : Dev nD) : FVec F S4096x1024 .f32 := m ((c : Thread nD τ).loc main_arg0)
def A1 (c : Dev nD) : FVec F S1024x2048 .f32 := m ((c : Thread nD τ).loc main_arg1)
/-- The chunk of `x` in slot `k`, and strip `q` of the weights. -/
def chunk (c : Dev nD) (k : Fin 4) : FVec F S1024x1024 .f32 := (xS c k).view.read (Elt F) (A0 m c)
def strip (c : Dev nD) (q : Fin 8) : FVec F S1024x256 .f32 := fun i => A1 m c ((qRect q).emb i)
/-- The device's product for strip `q` from slot `k`. -/
def prod (c : Dev nD) (k : Fin 4) (q : Fin 8) : FVec F S1024x256 .f32 :=
  matmul dot_S1024x1024_S1024x256_S1024x256_1_0_0_1_n_n none (chunk m c k) (strip m c q) (constant S1024x256 .f32 0x00000000#32)
/-- The slot a ring's stage `h` multiplies from. -/
def slotOf : Bool → Fin 4 → Fin 4
  | true, 0 => 0
  | false, 0 => 1
  | _, 1 => 2
  | true, 2 => 1
  | false, 2 => 0
  | _, 3 => 3
/-- The accumulator of strip `s` of ring `d` after stage `h` on device `c`. -/
def acc (d : Bool) (s : Fin 4) : Fin 4 → Dev nD → FVec F S1024x256 .f32
  | 0, c => prod m c (slotOf d 0) (qOf d s)
  | 1, c => addf (acc d s 0 (tow (!d) c)) (prod m c (slotOf d 1) (qOf d s))
  | 2, c => addf (acc d s 1 (tow (!d) c)) (prod m c (slotOf d 2) (qOf d s))
  | 3, c => addf (acc d s 2 (tow (!d) c)) (prod m c (slotOf d 3) (qOf d s))

/-- The largest magnitude of the first `n` strips of each ring on device `c`. -/
def amxUpto (c : Dev nD) : ℕ → F .f32
  | 0 => zero32
  | n + 1 => amxStep (amxUpto c n) (acc m true (Fin.ofNat 4 n) 3 c, acc m false (Fin.ofNat 4 n) 3 c)
def amxLoc (c : Dev nD) : F .f32 := amxUpto m c 4
def amxV (c : Dev nD) : FVec F S8x128 .f32 := broadcast S8x128 (amxLoc m c)
def scale (c : Dev nD) : F .f32 := scaleOf (amxLoc m c) (amxLoc m (prv c)) (amxLoc m (nxt c)) (amxLoc m (dia c))

/-- The strip of the result, of either ring. -/
def yStrip (c : Dev nD) (q : Fin 8) : FVec F S1024x256 .f32 :=
  if h : q.val < 4 then acc m true ⟨q.val, h⟩ 3 c else acc m false ⟨q.val - 4, by omega⟩ 3 c
/-- The strip an element of the result is in, and its place there. -/
def qAt (i : S1024x2048.Idx) : Fin 8 := ⟨(i 1).val / 256, by have h : (i 1).val < 2048 := (i 1).isLt; omega⟩
def inStrip (i : S1024x2048.Idx) : S1024x256.Idx
  | 0 => ⟨(i 0).val, (i 0).isLt⟩
  | 1 => ⟨(i 1).val % 256, Nat.mod_lt _ (by decide)⟩
/-- The result before it is quantised, a quarter of it, and after. -/
def yAll (c : Dev nD) : FVec F S1024x2048 .f32 := fun i => yStrip m c (qAt i) (inStrip i)
def yQuarter (c : Dev nD) (j : Fin 4) : FVec F S1024x512 .f32 := fun i => yAll m c ((hRect j).emb i)
def outAll (c : Dev nD) : FVec F S1024x2048 .f32 :=
  mulf (extf .f32 (truncf .fp8e4m3 (minimumf (broadcast S1024x2048 (Scalar.ofBits .f32 0x43E00000#32))
    (maximumf (broadcast S1024x2048 (Scalar.ofBits .f32 0xC3E00000#32)) (divf (yAll m c) (broadcast S1024x2048 (scale m c)))))
    bitsLt_fp8e4m3_f32) bitsLt_fp8e4m3_f32) (broadcast S1024x2048 (scale m c))

end Cert.KernelIdeal.Body

end
-- ==== Proof.Schedule.lean ====
/-
  The schedule of the cells: their duties, what each is paid, and what a payment hands over; the facts a device
  shares with all the others; and what each device starts with.
-/
module

public import proofs.«01_k».proof.Proof.Protocol

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Holding a tile -/

/-- A tile of device `c` at any contents. -/
def any (c : Dev nD) {sp : Space} {s : Shape} {e : EltTy} (M : Memref sig .tc sp s e) : sProp 𝕄 :=
  slot (M.view.loc (c : Thread nD τ)) M.view.set
/-- A tile of device `c` holding `X`. -/
abbrev tile (c : Dev nD) {sp : Space} {s : Shape} {e : EltTy} (M : Memref sig .tc sp s e) (X : s.Idx → Elt F e) : sProp 𝕄 :=
  owns (c : Thread nD τ) M fullShare X

omit [FloatOps F] in
theorem tile_any (c : Dev nD) {sp : Space} {s : Shape} {e : EltTy} (M : Memref sig .tc sp s e) (X : s.Idx → Elt F e) :
    tile c M X ⊢ (any c M : sProp 𝕄) := by
  unfold tile owns any slot
  iintro ⟨%f, -, H⟩
  iexists f; iexact H

instance any_storable (c : Dev nD) {sp : Space} {s : Shape} {e : EltTy} (M : Memref sig .tc sp s e) :
    Storable (upEmb : UEmb _ 𝕄) (any (F := F) c M) := by unfold any; infer_instance

/-! ## The schedule -/

variable (m : (ℓ : Loc nD τ sig) → Buf (Elt F) ℓ)

def shA : Fin 3 → PosShare TreeShare
  | 0 => fullShare.left
  | 1 => fullShare.right.left
  | 2 => fullShare.right.right
def shX : Fin 4 → PosShare TreeShare
  | 0 => fullShare.left.left
  | 1 => fullShare.left.right
  | 2 => fullShare.right.left
  | 3 => fullShare.right.right

/-- The slot of the maxima a device grants the one it gets ring `d`'s data from. -/
def aOf : Bool → Fin 4
  | true => 1
  | false => 2
/-- What passes along ring `d` from `n` at the barrier: the landing slots of the first and the last hop, and of the maxima. -/
def payBar (n : Dev nD) (d : Bool) : sProp 𝕄 :=
  iprop((bigSep Finset.univ fun s : Fin 4 => iprop(any n (cT d 1 s) ∗ any n (yT (qOf d s)))) ∗ any n (aT (aOf d))
    ∗ (if d = true then any n (aT 3) else iprop(emp)))
/-- The slot for the maximum of the device opposite, handed on with the first strip to the left. -/
def extra (t : Dev nD) (d : Bool) (h : Fin 3) (s : Fin 4) : sProp 𝕄 :=
  if d = false ∧ h = 0 ∧ s = 0 then any (dia t) (aT 3) else iprop(emp)
/-- That `n` has released the first `j` strips of its twice used slot of ring `d`. -/
def heard (n : Dev nD) (d : Bool) (j : ℕ) : sProp 𝕄 :=
  bigSep (Finset.univ.filter fun i : Fin 4 => i.val < j) fun i => released ES (n, d, i) 1

def pay (t : Dev nD) : CellK → ℕ → sProp 𝕄
  | .bar, j => payBar (tow (j == 1) t) (j == 1)
  | .snd d h s, _ => any t (srcT d h s)
  | .rcv d h s, _ => iprop(tile t (dstT d h s) (acc m d s h.castSucc (tow (!d) t)) ∗ extra t d h s)
  | .crd d, j => heard (tow d t) d (j + 1)
  | .sndA j, _ => owns (t : Thread nD τ) (aT 0) (shA j) (amxV m t)
  | .rcvA j, _ => tile t (aT j.succ) (amxV m (aFrom j t))
  | .xc k, _ => iprop(tile t (xT k) (chunk m t k) ∗ ((xS t k).view.loc (t : Thread nD τ) ↦[(xS t k).view.set]{shX k} A0 m t))
  | .wc k, _ => iprop(((wH k).view.loc (t : Thread nD τ) ↦[(wH k).view.set]{fullShare} A1 m t)
      ∗ ((wS k).view.loc (t : Thread nD τ) ↦[(wS k).view.set]{fullShare} A1 m t))
  | .oc j, _ => iprop(tile t (oT j) (quant (scale m t) (yQuarter m t j)) ∗ any t (yH j))

instance payBar_storable (n : Dev nD) (d : Bool) : Storable (upEmb : UEmb _ 𝕄) (payBar (F := F) n d) := by
  unfold payBar; cases d
  · rw [if_neg Bool.false_ne_true]; infer_instance
  · rw [if_pos rfl]; infer_instance
instance extra_storable (t : Dev nD) (d : Bool) (h : Fin 3) (s : Fin 4) : Storable (upEmb : UEmb _ 𝕄) (extra (F := F) t d h s) := by
  unfold extra; split <;> infer_instance
instance heard_storable (n : Dev nD) (d : Bool) (j : ℕ) : Storable (upEmb : UEmb _ 𝕄) (heard (F := F) n d j) := by
  unfold heard; infer_instance
instance heard_persistent (n : Dev nD) (d : Bool) (j : ℕ) : BI.Persistent (heard (F := F) n d j) := by
  unfold heard; infer_instance
instance pay_storable (t : Dev nD) (k : CellK) (j : ℕ) : Storable (upEmb : UEmb _ 𝕄) (pay m t k j) := by
  cases k <;> unfold pay <;> infer_instance

def Rd : Rounds.Schedule (GSem nD τ sig) ℕ 𝕄 where
  duties g r := if r = 0 then (match dec g.2 with | some k => Finset.range (nd k) | none => ∅) else ∅
  unitless _ := False
  amount g _ _ := match dec g.2 with | some k => amt k | none => 1
  payload g _ d := match dec g.2 with | some k => pay m g.1.1 k d | none => iprop(emp)
  amount_pos g _ _ _ := by
    cases dec g.2 with
    | some k => exact amt_pos k
    | none => exact Nat.one_pos

instance Rd_payload_storable (g : GSem nD τ sig) (r : ℕ) (d : ℕ) : Storable (upEmb : UEmb _ 𝕄) ((Rd m).payload g r d) := by
  dsimp only [Rd]; split <;> infer_instance

theorem duties_cell (c : Dev nD) (k : CellK) : (Rd m).duties (cell c k) 0 = Finset.range (nd k) := by
  dsimp only [Rd]; rw [if_pos rfl, dec_loc]
theorem duties_later (g : GSem nD τ sig) : ∀ r, 0 + 1 ≤ r → (Rd m).duties g r = ∅ :=
  fun r hr => by dsimp only [Rd]; exact if_neg (by omega)
theorem amount_cell (c : Dev nD) (k : CellK) (r d : ℕ) : (Rd m).amount (cell c k) r d = amt k := by
  dsimp only [Rd]; rw [dec_loc]
theorem payload_cell (c : Dev nD) (k : CellK) (r d : ℕ) : (Rd m).payload (cell c k) r d = pay m c k d := by
  dsimp only [Rd]; rw [dec_loc]
theorem expect_cell (c : Dev nD) (k : CellK) : (Rd m).expect (cell c k) 0 = nd k * amt k := by
  unfold Schedule.expect Schedule.amountOf
  rw [duties_cell, Finset.sum_congr rfl fun d _ => amount_cell m c k 0 d, Finset.sum_const, Finset.card_range, smul_eq_mul]
theorem mem_duties (c : Dev nD) (k : CellK) (d : ℕ) (h : d < nd k) : d ∈ (Rd m).duties (cell c k) 0 := by
  rw [duties_cell]; exact Finset.mem_range.mpr h
theorem rest_one (c : Dev nD) (k : CellK) (h : nd k = 1) :
    bigSep ((Rd m).duties (cell c k) 0 \ ∅) (fun d => (Rd m).payload (cell c k) 0 d) = pay m c k 0 := by
  rw [Finset.sdiff_empty, duties_cell, h, Finset.range_one, bigSep_singleton, payload_cell]

/-! ## What the devices share, and what each starts with -/

/-- The invariants of all cells and slots, that every cell is at its round, and the levels. -/
def ctx (K : Dev nD × CellK → ℕ) (I : Key → ℕ) : sProp 𝕄 :=
  iprop((bigSep Finset.univ fun x : Dev nD × CellK => cellInv ER (Rd m) (K x) (cell x.1 x.2))
    ∗ (bigSep Finset.univ fun x : Dev nD × CellK => reached ER (cell x.1 x.2) 0)
    ∗ (bigSep Finset.univ fun k : Key => slotInv ES (I k) k (any k.1 (cT k.2.1 0 k.2.2)))
    ∗ levAts L lv)

instance ctx_persistent (K : Dev nD × CellK → ℕ) (I : Key → ℕ) : BI.Persistent (ctx m K I) := by unfold ctx; infer_instance

variable (K : Dev nD × CellK → ℕ) (I : Key → ℕ)

theorem ctx_inv (c : Dev nD) (k : CellK) : ctx m K I ⊢ (cellInv ER (Rd m) (K (c, k)) (cell c k) : sProp 𝕄) := by
  unfold ctx
  exact sep_elim_left.trans (bigSep_elim (Φ := fun x : Dev nD × CellK => cellInv ER (Rd m) (K x) (cell x.1 x.2)) (Finset.mem_univ (c, k)))
theorem ctx_reached (c : Dev nD) (k : CellK) : ctx m K I ⊢ (reached ER (cell c k) 0 : sProp 𝕄) := by
  unfold ctx
  exact sep_elim_right.trans (sep_elim_left.trans
    (bigSep_elim (Φ := fun x : Dev nD × CellK => reached ER (cell x.1 x.2) 0) (Finset.mem_univ (c, k))))
theorem ctx_slot (k : Key) : ctx m K I ⊢ (slotInv ES (I k) k (any k.1 (cT k.2.1 0 k.2.2)) : sProp 𝕄) := by
  unfold ctx
  exact sep_elim_right.trans (sep_elim_right.trans (sep_elim_left.trans
    (bigSep_elim (Φ := fun k : Key => slotInv ES (I k) k (any k.1 (cT k.2.1 0 k.2.2))) (Finset.mem_univ k))))
theorem ctx_lev : ctx m K I ⊢ (levAts L lv : sProp 𝕄) := by
  unfold ctx
  exact sep_elim_right.trans (sep_elim_right.trans sep_elim_right)

def ow (c : Dev nD) (l : List Item) : sProp 𝕄 := iprop(∃ W, owes (c : Thread nD τ) (owe c l) W)
def posn (c : Dev nD) (k : CellK) : sProp 𝕄 := atPos ER (cell c k) 0 ∅ 0
def tok (c : Dev nD) (k : CellK) (d : ℕ) : sProp 𝕄 := dutyTok ER (cell c k) 0 d
def crdt (c : Dev nD) (k : CellK) (i : ℕ) : sProp 𝕄 := cred (tallyAt (cell c k) i (amt k))
def done (c : Dev nD) (k : CellK) : sProp 𝕄 := semVal (cell c k) 0

/-- The ghosts of one hop of a strip. -/
def Hop (c : Dev nD) (d : Bool) (h : Fin 3) (s : Fin 4) : sProp 𝕄 :=
  iprop(posn c (.snd d h s) ∗ posn c (.rcv d h s) ∗ tok c (.snd d h s) 0 ∗ tok (tow d c) (.rcv d h s) 0 ∗ crdt c (.rcv d h s) 0)
/-- The ghosts of a strip's slot that is used twice. -/
def Twice (c : Dev nD) (d : Bool) (s : Fin 4) : sProp 𝕄 :=
  iprop(tok (tow (!d) c) (.crd d) s.val ∗ crdt c (.crd d) s.val ∗ readerAt ES (c, d, s) 0 ∗ writeTok ES (tow d c, d, s) 1)
/-- The ghosts of a maximum's transfer, of a local copy, and of the barrier. -/
def Amx (c : Dev nD) (j : Fin 3) : sProp 𝕄 :=
  iprop(posn c (.sndA j) ∗ posn c (.rcvA j) ∗ tok c (.sndA j) 0 ∗ tok (aTo j c) (.rcvA j) 0 ∗ crdt c (.rcvA j) 0)
def Copy (c : Dev nD) (k : CellK) : sProp 𝕄 := iprop(posn c k ∗ tok c k 0)
/-- The duty of the barrier that a signal along ring `d` pays. -/
def duty : Bool → ℕ
  | true => 0
  | false => 1
def Bar (c : Dev nD) (d : Bool) : sProp 𝕄 := iprop(tok (tow d c) .bar (duty d) ∗ crdt c .bar 0)

end Cert.KernelIdeal.Body

end
-- ==== Proof.Ops.lean ====
/-
  A rule for every operation of the body, each stated with what the device holds before and after.
-/
module

public import proofs.«01_k».proof.Proof.Schedule

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CellK → ℕ) (I : Key → ℕ)

abbrev 𝒱₀ : Variants := Variants.none

/-- Device `c` runs `p` to `Φ`. -/
abbrev WP (c : Dev nD) {α : Type} (p : Prog (Eff F) α) (Φ : α → sProp 𝕄) : sProp 𝕄 :=
  wp frame (wpE (defs₀ (F := F)) 𝒱₀ (c : Thread nD τ) none) Set.univ p Φ

/-! ## Waits -/

theorem close (c : Dev nD) (k : CellK) :
    iprop(ctx m K I ∗ atPos ER (cell c k) (0 + 1) ∅ 0) ⊢ (|={Set.univ}=> done c k : sProp 𝕄) := by
  iintro ⟨#C, H⟩
  iapply (Rounds.cell_close ER (Rd m) (Set.mem_univ (K (c, k))) (fun h => h) (R := 0 + 1) (duties_later m (cell c k)))
  isplitr
  · iapply (ctx_inv m K I c k); iexact C
  iexact H

/-- A wait on a cell with one duty: what the duty hands over, and the cell closed. -/
theorem wp_wait_one (c : Dev nD) (k : CellK) (hk : nd k = 1) {w : Eff F PUnit}
    (hw : ∀ Q : PUnit → sProp 𝕄, wpE (defs₀ (F := F)) 𝒱₀ (c : Thread nD τ) none Set.univ w Q = waitSpec (c : Thread nD τ) Set.univ (loc k) (amt k) Q)
    (l : List Item) (hl : ∀ x ∈ l, level k 0 < level x.cell x.ix) (Φ : PUnit → sProp 𝕄) :
    iprop(ctx m K I ∗ posn c k ∗ crdt c k 0 ∗ ow c l)
      ⊢ iprop(((ow c l ∗ pay m c k 0 ∗ done c k) -∗ Φ ⟨⟩) -∗ WP c (Prog.lift w) Φ) := by
  unfold ow posn crdt
  iintro ⟨#C, Hat, Hc, ⟨%W, HO⟩⟩ Hk
  iapply (Rounds.wp_wait_rest_token 𝒱₀ ER (Rd m) (c : Thread nD τ) none (κ := K (c, k)) hw (Set.mem_univ _) 0
    (O := owe c l) (W := W) (R := 0) (m := 0) (T := ∅) (by rw [expect_cell, hk, Nat.zero_add, Nat.one_mul])) $$ [Hat Hc HO]
  · isplitr; · iapply (ctx_inv m K I c k); iexact C
    isplitl [Hc]; · iexact Hc
    isplitl [HO]; · iexact HO
    isplitr
    · iapply (mayWait c k 0 (by decide) l hl); iapply (ctx_lev m K I); iexact C
    iexact Hat
  iintro ⟨HO, Hat, -, Hp⟩
  imod (close m K I c k) $$ [Hat] with Hd
  · isplitr; · iexact C
    iexact Hat
  rw [wp_ret]; imodintro
  iapply Hk
  isplitl [HO]; · iexists _; iexact HO
  isplitl [Hp]; · iapply (Entails.of_eq (rest_one m c k hk)); iexact Hp
  iexact Hd

theorem wp_wtX (c : Dev nD) (k : Fin 4) (l : List Item) (hl : ∀ x ∈ l, level (.xc k) 0 < level x.cell x.ix) (Φ : PUnit → sProp 𝕄) :
    iprop(ctx m K I ∗ posn c (.xc k) ∗ crdt c (.xc k) 0 ∗ ow c l)
      ⊢ iprop(((ow c l ∗ pay m c (.xc k) 0 ∗ done c (.xc k)) -∗ Φ ⟨⟩) -∗ WP c (wtX c k) Φ) :=
  wp_wait_one m K I c (.xc k) rfl (fun Q => (wpE_waitDma2_eq 𝒱₀ (c : Thread nD τ) none Set.univ Q).trans (by rw [credX]; rfl)) l hl Φ
theorem wp_wtW (c : Dev nD) (k : Fin 4) (l : List Item) (hl : ∀ x ∈ l, level (.wc k) 0 < level x.cell x.ix) (Φ : PUnit → sProp 𝕄) :
    iprop(ctx m K I ∗ posn c (.wc k) ∗ crdt c (.wc k) 0 ∗ ow c l)
      ⊢ iprop(((ow c l ∗ pay m c (.wc k) 0 ∗ done c (.wc k)) -∗ Φ ⟨⟩) -∗ WP c (wtW k) Φ) :=
  wp_wait_one m K I c (.wc k) rfl (fun Q => (wpE_waitDma2_eq 𝒱₀ (c : Thread nD τ) none Set.univ Q).trans (by rw [credW]; rfl)) l hl Φ
theorem wp_wtO (c : Dev nD) (k : Fin 4) (l : List Item) (hl : ∀ x ∈ l, level (.oc k) 0 < level x.cell x.ix) (Φ : PUnit → sProp 𝕄) :
    iprop(ctx m K I ∗ posn c (.oc k) ∗ crdt c (.oc k) 0 ∗ ow c l)
      ⊢ iprop(((ow c l ∗ pay m c (.oc k) 0 ∗ done c (.oc k)) -∗ Φ ⟨⟩) -∗ WP c (wtO k) Φ) :=
  wp_wait_one m K I c (.oc k) rfl (fun Q => (wpE_waitDma2_eq 𝒱₀ (c : Thread nD τ) none Set.univ Q).trans (by rw [credO]; rfl)) l hl Φ
theorem wp_wtR (c : Dev nD) (d : Bool) (h : Fin 3) (s : Fin 4) (l : List Item)
    (hl : ∀ x ∈ l, level (.rcv d h s) 0 < level x.cell x.ix) (Φ : PUnit → sProp 𝕄) :
    iprop(ctx m K I ∗ posn c (.rcv d h s) ∗ crdt c (.rcv d h s) 0 ∗ ow c l)
      ⊢ iprop(((ow c l ∗ pay m c (.rcv d h s) 0 ∗ done c (.rcv d h s)) -∗ Φ ⟨⟩) -∗ WP c (wtR d h s) Φ) :=
  wp_wait_one m K I c (.rcv d h s) rfl (fun Q => (wpE_waitDma2_eq 𝒱₀ (c : Thread nD τ) none Set.univ Q).trans (by rw [credD]; rfl)) l hl Φ
theorem wp_wtS (c : Dev nD) (d : Bool) (h : Fin 3) (s : Fin 4) (l : List Item)
    (hl : ∀ x ∈ l, level (.snd d h s) 0 < level x.cell x.ix) (Φ : PUnit → sProp 𝕄) :
    iprop(ctx m K I ∗ posn c (.snd d h s) ∗ crdt c (.snd d h s) 0 ∗ ow c l)
      ⊢ iprop(((ow c l ∗ pay m c (.snd d h s) 0 ∗ done c (.snd d h s)) -∗ Φ ⟨⟩) -∗ WP c (wtS d h s) Φ) :=
  wp_wait_one m K I c (.snd d h s) rfl (fun Q => (wpE_waitDma2_eq 𝒱₀ (c : Thread nD τ) none Set.univ Q).trans (by rw [credS]; rfl)) l hl Φ
theorem wp_wtSA (c : Dev nD) (j : Fin 3) (l : List Item) (hl : ∀ x ∈ l, level (.sndA j) 0 < level x.cell x.ix) (Φ : PUnit → sProp 𝕄) :
    iprop(ctx m K I ∗ posn c (.sndA j) ∗ crdt c (.sndA j) 0 ∗ ow c l)
      ⊢ iprop(((ow c l ∗ pay m c (.sndA j) 0 ∗ done c (.sndA j)) -∗ Φ ⟨⟩) -∗ WP c (wtSA j) Φ) :=
  wp_wait_one m K I c (.sndA j) rfl (fun Q => (wpE_waitDma2_eq 𝒱₀ (c : Thread nD τ) none Set.univ Q).trans (by rw [credA]; rfl)) l hl Φ
theorem wp_wtRA (c : Dev nD) (j : Fin 3) (l : List Item) (hl : ∀ x ∈ l, level (.rcvA j) 0 < level x.cell x.ix) (Φ : PUnit → sProp 𝕄) :
    iprop(ctx m K I ∗ posn c (.rcvA j) ∗ crdt c (.rcvA j) 0 ∗ ow c l)
      ⊢ iprop(((ow c l ∗ pay m c (.rcvA j) 0 ∗ done c (.rcvA j)) -∗ Φ ⟨⟩) -∗ WP c (wtRA j) Φ) :=
  wp_wait_one m K I c (.rcvA j) rfl (fun Q => (wpE_waitDma2_eq 𝒱₀ (c : Thread nD τ) none Set.univ Q).trans (by rw [credA]; rfl)) l hl Φ

/-! ## The barrier -/

theorem wp_sgB (c t : Dev nD) (d : Bool) (ht : t = tow d c) (l : List Item) (Φ : PUnit → sProp 𝕄) :
    iprop(ctx m K I ∗ tok (tow d c) .bar (duty d) ∗ payBar c (!d) ∗ ow c (.bar d :: l))
      ⊢ iprop((ow c l -∗ Φ ⟨⟩) -∗ WP c (semSignalWord t bSem 1#32) Φ) := by
  subst ht
  unfold ow tok
  iintro ⟨#C, Ht, Hp, ⟨%W, HO⟩⟩ Hk
  iapply (Rounds.wp_signal 𝒱₀ ER (Rd m) (c : Thread nD τ) none (dst := (tow d c : Thread nD τ)) (sem := bSem) (κ := K (tow d c, .bar))
      (r := 0) (d := duty d) (mem_duties m (tow d c) .bar (duty d) (by cases d <;> decide)) ((amount_cell m (tow d c) .bar 0 _).trans rfl)
      0 (O₀ := owe c (.bar d :: l)) (owe c l) rfl (W := W)) $$ [Ht Hp HO]
  · isplitr; · iapply (ctx_inv m K I (tow d c) .bar); iexact C
    isplitl [HO]; · iexact HO
    isplitl [Ht]; · iexact Ht
    isplitl [Hp]
    · have e : (Rd m).payload ((tow d c : Thread nD τ), SemLoc.reg bSem) 0 (duty d) = payBar c (!d) := by
        refine (payload_cell m (tow d c) .bar 0 _).trans ?_
        cases d
        · exact congrArg (fun n => payBar n true) (tow_tow false c)
        · exact congrArg (fun n => payBar n false) (tow_tow true c)
      iapply (Entails.of_eq e.symm); iexact Hp
    · iapply (ctx_reached m K I (tow d c) .bar); iexact C
  iintro HO
  rw [wp_ret]; imodintro
  iapply Hk
  iexists _; iexact HO

theorem wp_wtB (c : Dev nD) (l : List Item) (hl : ∀ x ∈ l, level .bar 0 < level x.cell x.ix) (Φ : PUnit → sProp 𝕄) :
    iprop(ctx m K I ∗ posn c .bar ∗ crdt c .bar 0 ∗ crdt c .bar 0 ∗ ow c l)
      ⊢ iprop(((ow c l ∗ payBar (nxt c) true ∗ payBar (prv c) false ∗ done c .bar) -∗ Φ ⟨⟩) -∗ WP c (semWaitWord bSem 2#32) Φ) := by
  unfold ow posn crdt
  iintro ⟨#C, Hat, Hc1, Hc2, ⟨%W, HO⟩⟩ Hk
  ihave Hc := (show iprop(cred (tallyAt (cell c .bar) 0 (amt .bar)) ∗ cred (tallyAt (cell c .bar) 0 (amt .bar)))
      ⊢ (cred (tallyAt (cell c .bar) 0 2) : sProp 𝕄) from by
        refine (cred_add _ _).2.trans (Entails.of_eq ?_); rw [tallyAt_add]; rfl) $$ [Hc1 Hc2]
  · isplitl [Hc1] <;> iassumption
  iapply (Rounds.wp_wait_rest_token 𝒱₀ ER (Rd m) (c : Thread nD τ) none (κ := K (c, .bar)) (sm := loc .bar) (k' := 2)
    (wpE_semWait_eq 𝒱₀ (c : Thread nD τ) none Set.univ) (Set.mem_univ _) 0
    (O := owe c l) (W := W) (R := 0) (m := 0) (T := ∅) (by rw [expect_cell]; rfl)) $$ [Hat Hc HO]
  · isplitr; · iapply (ctx_inv m K I c .bar); iexact C
    isplitl [Hc]; · iexact Hc
    isplitl [HO]; · iexact HO
    isplitr
    · iapply (mayWait c .bar 0 (by decide) l hl); iapply (ctx_lev m K I); iexact C
    iexact Hat
  iintro ⟨HO, Hat, -, Hp⟩
  imod (close m K I c .bar) $$ [Hat] with Hd
  · isplitr; · iexact C
    iexact Hat
  have e : bigSep ((Rd m).duties (cell c .bar) 0 \ ∅) (fun d => (Rd m).payload (cell c .bar) 0 d)
      = iprop(payBar (prv c) false ∗ payBar (nxt c) true) := by
    rw [Finset.sdiff_empty, duties_cell, bigSep_congr (fun d _ => payload_cell m c .bar 0 d)]
    exact bigSep_eq_bigSepL_of_eq [0, 1] (by decide) (by decide) _
  ihave Hp' := (Entails.of_eq e) $$ Hp
  icases Hp' with ⟨Hp1, Hp2⟩
  rw [wp_ret]; imodintro
  iapply Hk
  isplitl [HO]; · iexists _; iexact HO
  isplitl [Hp2]; · iexact Hp2
  isplitl [Hp1]; · iexact Hp1
  iexact Hd

/-! ## The credits of a slot used twice -/

theorem heard_succ (n : Dev nD) (d : Bool) (s : Fin 4) :
    (heard (F := F) n d (s.val + 1)) = iprop(released ES (n, d, s) 1 ∗ heard n d s.val) := by
  unfold heard
  have e : (Finset.univ.filter fun i : Fin 4 => i.val < s.val + 1) = insert s (Finset.univ.filter fun i : Fin 4 => i.val < s.val) := by
    revert s; decide
  rw [e, bigSep_insert (by simp)]; rfl
theorem heard_zero (n : Dev nD) (d : Bool) : (heard (F := F) n d 0) = iprop(emp) := by
  unfold heard
  rw [show (Finset.univ.filter fun i : Fin 4 => i.val < 0) = ∅ from by decide, bigSep_empty]; rfl
theorem heard_at (n : Dev nD) (d : Bool) (j : ℕ) (s : Fin 4) (h : s.val < j) : heard (F := F) n d j ⊢ released ES (n, d, s) 1 := by
  unfold heard
  exact bigSep_elim (Φ := fun i : Fin 4 => (released ES (n, d, i) 1 : sProp 𝕄)) (Finset.mem_filter.mpr ⟨Finset.mem_univ s, h⟩)

theorem heard_of (n : Dev nD) (d : Bool) (B : Finset ℕ) (j : ℕ) (hj : j ∈ B) (s : Fin 4) (h : s.val < j + 1) :
    bigSep B (fun j => heard (F := F) n d (j + 1)) ⊢ released ES (n, d, s) 1 :=
  (bigSep_elim (Φ := fun j => (heard (F := F) n d (j + 1))) hj).trans (heard_at n d (j + 1) s h)

theorem cT_any_false (c : Dev nD) (d : Bool) (b : Fin 2) (s : Fin 4) :
    iprop(any (F := F) c (cT d b s) ∗ any c (cT d b s)) ⊢ (False : sProp 𝕄) := by
  unfold any
  refine slot_slot_false ?_
  exact ⟨_, View.emb_mem_set _ (fun a => ⟨0, by revert a; decide⟩)⟩

/-- Granting the slot's strip `s` to the writer. -/
theorem wp_sgC (c t : Dev nD) (d : Bool) (s : Fin 4) (ht : t = tow (!d) c) (l : List Item) (Φ : PUnit → sProp 𝕄) :
    iprop(ctx m K I ∗ any c (cT d 0 s) ∗ readerAt ES (c, d, s) 0 ∗ heard c d s.val ∗ tok (tow (!d) c) (.crd d) s.val ∗ ow c (.crd d s :: l))
      ⊢ iprop(((ow c l ∗ heard c d (s.val + 1)) -∗ Φ ⟨⟩) -∗ WP c (sgC d t) Φ) := by
  subst ht
  unfold ow tok
  iintro ⟨#C, Hs, Hr, #Hh, Ht, ⟨%W, HO⟩⟩ Hk
  imod (slot_release ES (Es := Set.univ) (ι := I (c, d, s)) (k := (c, d, s)) (S := any c (cT d 0 s)) (Set.mem_univ _) (cT_any_false c d 0 s) 0)
    $$ [Hs Hr] with ⟨-, #Hrel⟩
  · isplitr; · iapply (ctx_slot m K I (c, d, s)); iexact C
    isplitl [Hr]; · iexact Hr
    iexact Hs
  ihave #Hh' := (Entails.of_eq (heard_succ (F := F) c d s).symm) $$ []
  · isplitr; · iexact Hrel
    iexact Hh
  iapply (Rounds.wp_signal 𝒱₀ ER (Rd m) (c : Thread nD τ) none (dst := (tow (!d) c : Thread nD τ)) (sem := cSem d) (κ := K (tow (!d) c, .crd d))
      (r := 0) (d := s.val) (mem_duties m (tow (!d) c) (.crd d) s.val s.isLt) ((amount_cell m (tow (!d) c) (.crd d) 0 _).trans rfl)
      s.val (O₀ := owe c (.crd d s :: l)) (owe c l) rfl (W := W)) $$ [Ht HO]
  · isplitr; · iapply (ctx_inv m K I (tow (!d) c) (.crd d)); iexact C
    isplitl [HO]; · iexact HO
    isplitl [Ht]; · iexact Ht
    isplitr
    · have e : (Rd m).payload ((tow (!d) c : Thread nD τ), SemLoc.reg (cSem d)) 0 s.val = heard c d (s.val + 1) := by
        refine (payload_cell m (tow (!d) c) (.crd d) 0 _).trans ?_
        show heard (tow d (tow (!d) c)) d _ = _
        rw [tow_tow']
      iapply (Entails.of_eq e.symm); iexact Hh'
    · iapply (ctx_reached m K I (tow (!d) c) (.crd d)); iexact C
  iintro HO
  rw [wp_ret]; imodintro
  iapply Hk
  isplitl [HO]; · iexists _; iexact HO
  iexact Hh'

/-- After `n` credits of ring `d` were waited for. -/
def Credits (c : Dev nD) (d : Bool) (n : ℕ) : sProp 𝕄 :=
  if n = 4 then done c (.crd d)
  else iprop(∃ S : Finset ℕ, ⌜S ⊆ Finset.range 4⌝ ∗ atPos ER (cell c (.crd d)) 0 S n ∗ bigSep S (fun j => heard (tow d c) d (j + 1)))

theorem Credits_zero (c : Dev nD) (d : Bool) : posn c (.crd d) ⊢ (Credits c d 0 : sProp 𝕄) := by
  unfold Credits posn
  rw [if_neg (by decide)]
  iintro H
  iexists ∅
  isplitr; · ipureintro; exact Finset.empty_subset _
  isplitl [H]; · iexact H
  rw [bigSep_empty]; iempintro

theorem wp_wtC (c : Dev nD) (d : Bool) (s : Fin 4) (l : List Item) (hl : ∀ x ∈ l, level (.crd d) s.val < level x.cell x.ix) (Φ : PUnit → sProp 𝕄) :
    iprop(ctx m K I ∗ Credits c d s.val ∗ crdt c (.crd d) s.val ∗ writeTok ES (tow d c, d, s) 1 ∗ ow c l)
      ⊢ iprop(((ow c l ∗ Credits c d (s.val + 1) ∗ any (tow d c) (cT d 0 s)) -∗ Φ ⟨⟩) -∗ WP c (wtC d) Φ) := by
  have h4 : s.val ≠ 4 := by omega
  unfold ow crdt Credits
  rw [if_neg h4]
  iintro ⟨#C, ⟨%T, %hT, Hat, #Hh⟩, Hc, Hw, ⟨%W, HO⟩⟩ Hk
  have take : iprop(ctx m K I ∗ released ES (tow d c, d, s) 1 ∗ writeTok ES (tow d c, d, s) 1) ⊢ (|={Set.univ}=> any (tow d c) (cT d 0 s) : sProp 𝕄) := by
    iintro ⟨#C, Hr, Hw⟩
    iapply (slot_take ES (ι := I (tow d c, d, s)) (k := (tow d c, d, s)) (S := any (tow d c) (cT d 0 s)) (Set.mem_univ _) 1)
    isplitr; · iapply (ctx_slot m K I (tow d c, d, s)); iexact C
    isplitl [Hr] <;> iassumption
  have pl : ∀ B : Finset ℕ, bigSep B (fun j => (Rd m).payload (cell c (.crd d)) 0 j) = bigSep B (fun j => heard (tow d c) d (j + 1)) := fun B =>
    bigSep_congr fun j _ => payload_cell m c (.crd d) 0 j
  by_cases h3 : s.val = 3
  · iapply (Rounds.wp_wait_rest_token 𝒱₀ ER (Rd m) (c : Thread nD τ) none (κ := K (c, .crd d)) (sm := loc (.crd d)) (k' := 1)
      (wpE_semWait_eq 𝒱₀ (c : Thread nD τ) none Set.univ) (Set.mem_univ _) s.val
      (O := owe c l) (W := W) (R := 0) (m := s.val) (T := T) (by rw [expect_cell, h3]; rfl)) $$ [Hat Hc HO]
    · isplitr; · iapply (ctx_inv m K I c (.crd d)); iexact C
      isplitl [Hc]; · iexact Hc
      isplitl [HO]; · iexact HO
      isplitr
      · iapply (mayWait c (.crd d) s.val s.isLt l hl); iapply (ctx_lev m K I); iexact C
      iexact Hat
    iintro ⟨HO, Hat, -, Hp⟩
    imod (close m K I c (.crd d)) $$ [Hat] with Hd
    · isplitr; · iexact C
      iexact Hat
    ihave #Hp' := (Entails.of_eq (pl _)) $$ Hp
    have h3mem : 3 ∈ (Rd m).duties (cell c (.crd d)) 0 := mem_duties m c (.crd d) 3 (show 3 < 4 by decide)
    imod take $$ [Hw] with Hs
    · isplitr; · iexact C
      isplitr
      · by_cases hm : 3 ∈ T
        · iapply (heard_of (F := F) (tow d c) d T 3 hm s (by omega)); iexact Hh
        · iapply (heard_of (F := F) (tow d c) d _ 3 (Finset.mem_sdiff.mpr ⟨h3mem, hm⟩) s (by omega)); iexact Hp'
      iexact Hw
    rw [wp_ret]; imodintro
    iapply Hk
    isplitl [HO]; · iexists _; iexact HO
    isplitl [Hd]
    · rw [if_pos (by omega)]; iexact Hd
    iexact Hs
  · iapply (Rounds.wp_wait 𝒱₀ ER (Rd m) (c : Thread nD τ) none (κ := K (c, .crd d)) (sm := loc (.crd d)) (k' := 1)
      (wpE_semWait_eq 𝒱₀ (c : Thread nD τ) none Set.univ) (Set.mem_univ _) (cr := Finsupp.single s.val 1)
      (O := owe c l) (W := W) {(loc (.crd d), s.val)} (R := 0) (m := s.val) (T := T) (by simp)
      (by rw [Finsupp.support_single_ne_zero _ (by decide)]; simp)) $$ [Hat Hc HO]
    · isplitr; · iapply (ctx_inv m K I c (.crd d)); iexact C
      isplitl [Hc]; · iexact Hc
      isplitl [HO]; · iexact HO
      isplitr
      · iapply (mayWait c (.crd d) s.val s.isLt l hl); iapply (ctx_lev m K I); iexact C
      iexact Hat
    iintro %S ⟨%hS, HO, Hat, Hp⟩
    ihave #Hp' := (Entails.of_eq (pl _)) $$ Hp
    obtain ⟨hTS, hSd, hcard⟩ := hS
    rw [duties_cell] at hSd
    have hS4 : S ⊆ Finset.range 4 := hSd
    have hge : ∃ j ∈ S, s.val ≤ j := by
      by_contra hno
      push Not at hno
      have h1 : S ⊆ Finset.range s.val := fun j hj => Finset.mem_range.mpr (hno j hj)
      have h2 := Finset.card_le_card h1
      rw [Finset.card_range] at h2
      rw [expect_cell, duties_cell, Finset.card_sdiff_of_subset hSd, Finset.card_range] at hcard
      simp only [nd, amt] at hcard
      omega
    obtain ⟨j, hj, hsj⟩ := hge
    ihave #Hall := (show iprop(bigSep T (fun j => heard (F := F) (tow d c) d (j + 1)) ∗ bigSep (S \ T) (fun j => heard (F := F) (tow d c) d (j + 1)))
        ⊢ bigSep S (fun j => heard (F := F) (tow d c) d (j + 1)) from
        Entails.of_eq (by
          refine (bigSep_union (Finset.disjoint_sdiff)).symm.trans ?_
          rw [Finset.union_sdiff_of_subset hTS])) $$ []
    · isplitr
      · iexact Hh
      · iexact Hp'
    imod take $$ [Hw] with Hs
    · isplitr; · iexact C
      isplitr
      · iapply (heard_of (F := F) (tow d c) d S j hj s (by omega)); iexact Hall
      iexact Hw
    rw [wp_ret]; imodintro
    iapply Hk
    isplitl [HO]; · iexists _; iexact HO
    isplitl [Hat]
    · rw [if_neg (by omega)]
      iexists S
      isplitr; · ipureintro; exact hS4
      isplitl [Hat]; · iexact Hat
      iexact Hall
    iexact Hs

end Cert.KernelIdeal.Body

end
-- ==== Proof.Tiles.lean ====
/-
  Rules for the transfers, and for loads and stores of tiles.
-/
module

public import proofs.«01_k».proof.Proof.Ops

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CellK → ℕ) (I : Key → ℕ)

theorem WP_bind (c : Dev nD) {α β : Type} (p : Prog (Eff F) α) (k : α → Prog (Eff F) β) (Φ : β → sProp 𝕄) :
    WP c (p >>= k) Φ = WP c p fun a => WP c (k a) Φ := wp_bind _ _ _ p k Φ
theorem WP_pure (c : Dev nD) {α : Type} (a : α) (Φ : α → sProp 𝕄) :
    WP c (pure a : Prog (Eff F) α) Φ = (iprop(|={Set.univ}=> Φ a) : sProp 𝕄) := rfl

/-! ## Contents of tiles -/

theorem any_tile (c : Dev nD) {sp : Space} {s : Shape} {e : EltTy} (M : Memref sig .tc sp s e) :
    any c M ⊢ (iprop(∃ X, tile c M X) : sProp 𝕄) := by
  unfold any slot tile owns
  iintro ⟨%f, H⟩
  iexists M.view.read (Elt F) f
  iexists f
  isplitr; · ipureintro; rfl
  iexact H

theorem owns_open (c : Dev nD) {sp : Space} {s : Shape} {e : EltTy} (M : Memref sig .tc sp s e) (q : PosShare TreeShare)
    (X : s.Idx → Elt F e) : owns (c : Thread nD τ) M q X
      ⊢ (iprop(∃ g, ⌜M.view.read (Elt F) g = X⌝ ∗ (M.view.loc (c : Thread nD τ) ↦[M.view.set]{q} g)) : sProp 𝕄) := .rfl

theorem tile_written (c : Dev nD) {sp : Space} {s : Shape} {e : EltTy} (M : Memref sig .tc sp s e)
    (f : M.view.ty.Contents (Elt F)) (X : s.Idx → Elt F e) :
    (M.view.loc (c : Thread nD τ) ↦[M.view.set]{fullShare} M.view.write (Elt F) f X Finset.univ) ⊢ (tile c M X : sProp 𝕄) := by
  refine (owns_intro (c : Thread nD τ) M fullShare _).trans (Entails.of_eq ?_)
  rw [View.read_write_univ]

/-- A quarter of the weights, held. -/
def wq (c : Dev nD) (j : Fin 4) : sProp 𝕄 := ((wH j).view.loc (c : Thread nD τ) ↦[(wH j).view.set]{fullShare} A1 m c)

theorem wH_written (c : Dev nD) (j : Fin 4) (f : (wH j).view.ty.Contents (Elt F)) :
    ((wH j).view.loc (c : Thread nD τ) ↦[(wH j).view.set]{fullShare} (wH j).view.write (Elt F) f ((wS j).view.read (Elt F) (A1 m c)) Finset.univ)
      ⊢ (wq m c j : sProp 𝕄) :=
  (tile_written c (wH j) f _).trans (Entails.of_eq
    (owns_slice_read (Val := Elt F) (c : Thread nD τ) wM fullShare (hRect j) (fun _ => rfl) (A1 m c)))

/-! ## Transfers -/

theorem wp_cpX (c : Dev nD) (k : Fin 4) (Φ : PUnit → sProp 𝕄) :
    iprop(ctx m K I ∗ tok c (.xc k) 0 ∗ ((xS c k).view.loc (c : Thread nD τ) ↦[(xS c k).view.set]{shX k} A0 m c) ∗ any c (xT k))
      ⊢ iprop((crdt c (.xc k) 0 -∗ Φ ⟨⟩) -∗ WP c (cpX c k) Φ) := by
  unfold any slot tok crdt
  iintro ⟨#C, Ht, Hs, ⟨%f, Hd⟩⟩ Hk
  iapply (Rounds.wp_copy_pointsTo 𝒱₀ ER (Rd m) (c : Thread nD τ) none (κ := K (c, .xc k)) (src := xS c k) (dst := xT k) (sem := .dma (xSem k))
      (q := shX k) (fs := A0 m c) (fd := f) (r := 0) (d := 0) (mem_duties m c (.xc k) 0 (show 0 < 1 by decide)) 0 NX (credX k) (amount_cell m c (.xc k) 0 0)
      (by
        rw [show (Rd m).payload ((c : Thread nD τ), SemLoc.dma (xSem k)) 0 0 = pay m c (.xc k) 0 from payload_cell m c (.xc k) 0 0]
        exact sep_mono_left (tile_written c (xT k) f _))) $$ [Ht Hs Hd]
  · isplitr; · iapply (ctx_inv m K I c (.xc k)); iexact C
    isplitl [Hs]; · iexact Hs
    isplitl [Hd]; · iexact Hd
    isplitl [Ht]; · iexact Ht
    iapply (ctx_reached m K I c (.xc k)); iexact C
  iintro Hc
  rw [wp_ret]; imodintro
  iapply Hk; iexact Hc

theorem wp_cpW (c : Dev nD) (k : Fin 4) (Φ : PUnit → sProp 𝕄) :
    iprop(ctx m K I ∗ tok c (.wc k) 0 ∗ ((wS k).view.loc (c : Thread nD τ) ↦[(wS k).view.set]{fullShare} A1 m c) ∗ any c (wH k))
      ⊢ iprop((crdt c (.wc k) 0 -∗ Φ ⟨⟩) -∗ WP c (cpW k) Φ) := by
  unfold any slot tok crdt
  iintro ⟨#C, Ht, Hs, ⟨%f, Hd⟩⟩ Hk
  iapply (Rounds.wp_copy_pointsTo 𝒱₀ ER (Rd m) (c : Thread nD τ) none (κ := K (c, .wc k)) (src := wS k) (dst := wH k) (sem := .dma (wSem k))
      (q := fullShare) (fs := A1 m c) (fd := f) (r := 0) (d := 0) (mem_duties m c (.wc k) 0 (show 0 < 1 by decide)) 0 NW (credW k) (amount_cell m c (.wc k) 0 0)
      (by
        rw [show (Rd m).payload ((c : Thread nD τ), SemLoc.dma (wSem k)) 0 0 = pay m c (.wc k) 0 from payload_cell m c (.wc k) 0 0]
        exact sep_mono_left (wH_written m c k f))) $$ [Ht Hs Hd]
  · isplitr; · iapply (ctx_inv m K I c (.wc k)); iexact C
    isplitl [Hs]; · iexact Hs
    isplitl [Hd]; · iexact Hd
    isplitl [Ht]; · iexact Ht
    iapply (ctx_reached m K I c (.wc k)); iexact C
  iintro Hc
  rw [wp_ret]; imodintro
  iapply Hk; iexact Hc

/-- The copy of a quarter of the result. -/
theorem wp_cpO (c : Dev nD) (j : Fin 4) (Φ : PUnit → sProp 𝕄) :
    iprop(ctx m K I ∗ tok c (.oc j) 0 ∗ tile c (yH j) (quant (scale m c) (yQuarter m c j)) ∗ any c (oT j))
      ⊢ iprop((crdt c (.oc j) 0 -∗ Φ ⟨⟩) -∗ WP c (Prog.lift (.enqueueDma (yH j) (.here (oT j)) (.dma (oSem j)) (View.wordExact_bits rfl)
        (View.wordExact_bits rfl) ⟨Or.inl rfl, trivial⟩)) Φ) := by
  unfold any slot tok crdt tile owns
  iintro ⟨#C, Ht, ⟨%g, %hg, Hs⟩, ⟨%f, Hd⟩⟩ Hk
  iapply (Rounds.wp_copy_pointsTo 𝒱₀ ER (Rd m) (c : Thread nD τ) none (κ := K (c, .oc j)) (src := yH j) (dst := oT j) (sem := .dma (oSem j))
      (q := fullShare) (fs := g) (fd := f) (r := 0) (d := 0) (mem_duties m c (.oc j) 0 (show 0 < 1 by decide)) 0 NW (credO j) (amount_cell m c (.oc j) 0 0)
      (by
        rw [show (Rd m).payload ((c : Thread nD τ), SemLoc.dma (oSem j)) 0 0 = pay m c (.oc j) 0 from payload_cell m c (.oc j) 0 0, hg]
        refine BIClass.sep_mono (tile_written c (oT j) f _) ?_
        unfold any slot
        exact exists_intro (Φ := fun g => ((yH j).view.loc (c : Thread nD τ) ↦[(yH j).view.set]{fullShare} g : sProp 𝕄)) g)) $$ [Ht Hs Hd]
  · isplitr; · iapply (ctx_inv m K I c (.oc j)); iexact C
    isplitl [Hs]; · iexact Hs
    isplitl [Hd]; · iexact Hd
    isplitl [Ht]; · iexact Ht
    iapply (ctx_reached m K I c (.oc j)); iexact C
  iintro Hc
  rw [wp_ret]; imodintro
  iapply Hk; iexact Hc

/-- A strip sent on to the neighbour. -/
theorem wp_send (c t : Dev nD) (d : Bool) (h : Fin 3) (s : Fin 4) (ht : t = tow d c) (l : List Item) (Φ : PUnit → sProp 𝕄) :
    iprop(ctx m K I ∗ tok c (.snd d h s) 0 ∗ tok (tow d c) (.rcv d h s) 0 ∗ tile c (srcT d h s) (acc m d s h.castSucc c)
        ∗ any (tow d c) (dstT d h s) ∗ extra (tow d c) d h s ∗ ow c (.rcv d h s :: l))
      ⊢ iprop(((ow c l ∗ crdt c (.snd d h s) 0) -∗ Φ ⟨⟩) -∗ WP c (send d h s t) Φ) := by
  subst ht
  unfold any slot tok crdt tile owns ow
  iintro ⟨#C, Ht1, Ht2, ⟨%g, %hg, Hs⟩, ⟨%f, Hd⟩, Hx, ⟨%W, HO⟩⟩ Hk
  iapply (Rounds.wp_send_pointsTo_with 𝒱₀ ER (Rd m) (c : Thread nD τ) none (κ₁ := K (c, .snd d h s)) (κ₂ := K (tow d c, .rcv d h s))
      (c' := (tow d c : Thread nD τ)) (src := srcT d h s) (dst := dstT d h s) (sS := .dma (sSem d h s)) (sem := .dma (rSem d h s))
      (q := fullShare) (fs := g) (fd := f) (F := extra (tow d c) d h s) (r₁ := 0) (r₂ := 0) (d₁ := 0) (d₂ := 0)
      (mem_duties m c (.snd d h s) 0 (show 0 < 1 by decide)) (mem_duties m (tow d c) (.rcv d h s) 0 (show 0 < 1 by decide))
      0 0 NS (credD d h s) (amount_cell m c (.snd d h s) 0 0) (amount_cell m (tow d c) (.rcv d h s) 0 0)
      (O₀ := owe c (.rcv d h s :: l)) (owe c l) rfl (W := W)
      (by
        rw [show (Rd m).payload ((c : Thread nD τ), SemLoc.dma (sSem d h s)) 0 0 = pay m c (.snd d h s) 0 from payload_cell m c (.snd d h s) 0 0]
        show _ ⊢ any c (srcT d h s)
        unfold any slot
        exact exists_intro (Φ := fun g => ((srcT d h s).view.loc (c : Thread nD τ) ↦[(srcT d h s).view.set]{fullShare} g : sProp 𝕄)) g)
      (by
        rw [show (Rd m).payload ((tow d c : Thread nD τ), SemLoc.dma (rSem d h s)) 0 0 = pay m (tow d c) (.rcv d h s) 0
          from payload_cell m (tow d c) (.rcv d h s) 0 0, hg]
        show _ ⊢ iprop(tile (tow d c) (dstT d h s) (acc m d s h.castSucc (tow (!d) (tow d c))) ∗ extra (tow d c) d h s)
        rw [tow_tow]
        exact sep_mono_left (tile_written (tow d c) (dstT d h s) f _))) $$ [Ht1 Ht2 Hs Hd Hx HO]
  · isplitr; · iapply (ctx_inv m K I c (.snd d h s)); iexact C
    isplitr; · iapply (ctx_inv m K I (tow d c) (.rcv d h s)); iexact C
    isplitl [Hs]; · iexact Hs
    isplitl [Hd Hx]
    · isplitl [Hd] <;> iassumption
    isplitl [HO]; · iexact HO
    isplitl [Ht1]; · iexact Ht1
    isplitr; · iapply (ctx_reached m K I c (.snd d h s)); iexact C
    isplitl [Ht2]; · iexact Ht2
    iapply (ctx_reached m K I (tow d c) (.rcv d h s)); iexact C
  iintro ⟨Hc, HO⟩
  rw [wp_ret]; imodintro
  iapply Hk
  isplitl [HO]; · iexists _; iexact HO
  iexact Hc

/-- A device's maximum sent to a peer. -/
theorem wp_sendA (c t : Dev nD) (j : Fin 3) (ht : t = aTo j c) (l : List Item) (Φ : PUnit → sProp 𝕄) :
    iprop(ctx m K I ∗ tok c (.sndA j) 0 ∗ tok (aTo j c) (.rcvA j) 0 ∗ owns (c : Thread nD τ) (aT 0) (shA j) (amxV m c)
        ∗ any (aTo j c) (aT j.succ) ∗ ow c (.amx j :: l))
      ⊢ iprop(((ow c l ∗ crdt c (.sndA j) 0) -∗ Φ ⟨⟩) -∗ WP c (sendA j t) Φ) := by
  subst ht
  unfold any slot tok crdt ow
  iintro ⟨#C, Ht1, Ht2, Hs0, ⟨%f, Hd⟩, ⟨%W, HO⟩⟩ Hk
  ihave Hs1 := (owns_open c (aT 0) (shA j) (amxV m c)) $$ Hs0
  icases Hs1 with ⟨%g, %hg, Hs⟩
  iapply (Rounds.wp_send_pointsTo 𝒱₀ ER (Rd m) (c : Thread nD τ) none (κ₁ := K (c, .sndA j)) (κ₂ := K (aTo j c, .rcvA j))
      (c' := (aTo j c : Thread nD τ)) (src := aT 0) (dst := aT j.succ) (sS := .dma (saSem j)) (sem := .dma (raSem j))
      (q := shA j) (fs := g) (fd := f) (r₁ := 0) (r₂ := 0) (d₁ := 0) (d₂ := 0)
      (mem_duties m c (.sndA j) 0 (show 0 < 1 by decide)) (mem_duties m (aTo j c) (.rcvA j) 0 (show 0 < 1 by decide))
      0 0 NA (credA j.succ) (amount_cell m c (.sndA j) 0 0) (amount_cell m (aTo j c) (.rcvA j) 0 0)
      (O₀ := owe c (.amx j :: l)) (owe c l) rfl (W := W)
      (by
        rw [show (Rd m).payload ((c : Thread nD τ), SemLoc.dma (saSem j)) 0 0 = pay m c (.sndA j) 0 from payload_cell m c (.sndA j) 0 0]
        show _ ⊢ (owns (c : Thread nD τ) (aT 0) (shA j) (amxV m c) : sProp 𝕄)
        rw [← hg]
        exact owns_intro (c : Thread nD τ) (aT 0) (shA j) g)
      (by
        rw [show (Rd m).payload ((aTo j c : Thread nD τ), SemLoc.dma (raSem j)) 0 0 = pay m (aTo j c) (.rcvA j) 0
          from payload_cell m (aTo j c) (.rcvA j) 0 0, hg]
        show _ ⊢ tile (aTo j c) (aT j.succ) (amxV m (aFrom j (aTo j c)))
        rw [aFrom_aTo]
        exact tile_written (aTo j c) (aT j.succ) f _)) $$ [Ht1 Ht2 Hs Hd HO]
  · isplitr; · iapply (ctx_inv m K I c (.sndA j)); iexact C
    isplitr; · iapply (ctx_inv m K I (aTo j c) (.rcvA j)); iexact C
    isplitl [Hs]; · iexact Hs
    isplitl [Hd]; · iexact Hd
    isplitl [HO]; · iexact HO
    isplitl [Ht1]; · iexact Ht1
    isplitr; · iapply (ctx_reached m K I c (.sndA j)); iexact C
    isplitl [Ht2]; · iexact Ht2
    iapply (ctx_reached m K I (aTo j c) (.rcvA j)); iexact C
  iintro ⟨Hc, HO⟩
  rw [wp_ret]; imodintro
  iapply Hk
  isplitl [HO]; · iexists _; iexact HO
  iexact Hc

/-! ## Loads and stores -/

theorem down_up (v : FVec F S1024x256 .f32) : down (up v) = v := by
  funext j
  simp [down, up, shapeCast, Shape.reshapeEquiv_reshapeEquiv, Shape.reshapeEquiv_self]

theorem wp_ldC (c : Dev nD) (d : Bool) (b : Fin 2) (s : Fin 4) (X : FVec F S1024x256 .f32) (Φ : Vec F S1x1024x256 .f32 → sProp 𝕄) :
    tile c (cT d b s) X ⊢ iprop((∀ v, ⌜down v = X⌝ -∗ tile c (cT d b s) X -∗ Φ v) -∗ WP c (ldC d b s) Φ) := by
  unfold tile owns
  iintro ⟨%f, %hf, H⟩ Hk
  iapply (wp_load_rect 𝒱₀ (c : Thread nD τ) none Set.univ (m := cM d) (r := cRect b s) (S := (cT d b s).view.set) (f := f)
    (by rw [View.set_reshape])) $$ H
  iintro H
  rw [wp_ret]; imodintro
  iapply Hk
  · ipureintro; exact hf
  iexists f
  isplitr; · ipureintro; exact hf
  iexact H

theorem wp_stC (c : Dev nD) (d : Bool) (b : Fin 2) (s : Fin 4) (v : FVec F S1024x256 .f32) (Φ : PUnit → sProp 𝕄) :
    any c (cT d b s) ⊢ iprop((tile c (cT d b s) v -∗ Φ ⟨⟩) -∗ WP c (stC d b s (up v)) Φ) := by
  unfold any slot tile owns
  iintro ⟨%f, H⟩ Hk
  iapply (wp_store 𝒱₀ (c : Thread nD τ) none Set.univ (m := cM d) (r := cRect b s) (w := up v) (Mk := Finset.univ)
    (S := (cT d b s).view.set) (f := f) (by rw [View.set_reshape]; exact subset_rfl)) $$ H
  iintro H
  rw [wp_ret]; imodintro
  iapply Hk
  iexists _
  isplitr
  rotate_left
  · iexact H
  ipureintro
  exact (congrArg down (View.read_write_univ (v := (cM d).access (cRect b s)) f (up v))).trans (down_up v)

theorem wp_ldY (c : Dev nD) (q : Fin 8) (X : FVec F S1024x256 .f32) (Φ : Vec F S1024x256 .f32 → sProp 𝕄) :
    tile c (yT q) X ⊢ iprop((tile c (yT q) X -∗ Φ X) -∗ WP c (ldY q) Φ) := by
  unfold tile owns
  iintro ⟨%f, %hf, H⟩ Hk
  iapply (wp_load_rect 𝒱₀ (c : Thread nD τ) none Set.univ (m := yM) (r := qRect q) (S := (yT q).view.set) (f := f) subset_rfl) $$ H
  iintro H
  rw [wp_ret]; imodintro
  rw [show (yM.access (qRect q)).read (Elt F) f = X from hf]
  iapply Hk
  iexists f
  isplitr; · ipureintro; exact hf
  iexact H

theorem wp_stY (c : Dev nD) (q : Fin 8) (v : FVec F S1024x256 .f32) (Φ : PUnit → sProp 𝕄) :
    any c (yT q) ⊢ iprop((tile c (yT q) v -∗ Φ ⟨⟩) -∗ WP c (stY q (shapeCast S1024x256 v shapeCasts_S1024x256_S1024x256)) Φ) := by
  unfold any slot
  iintro ⟨%f, H⟩ Hk
  iapply (wp_store 𝒱₀ (c : Thread nD τ) none Set.univ (m := yM) (r := qRect q) (w := shapeCast S1024x256 v shapeCasts_S1024x256_S1024x256) (Mk := Finset.univ)
    (S := (yT q).view.set) (f := f) subset_rfl) $$ H
  iintro H
  rw [wp_ret]; imodintro
  iapply Hk
  ihave H' := (tile_written c (yT q) f (shapeCast S1024x256 v shapeCasts_S1024x256_S1024x256)) $$ H
  iapply (Entails.of_eq (show (tile c (yT q) (shapeCast S1024x256 v shapeCasts_S1024x256_S1024x256) : sProp 𝕄) = tile c (yT q) v from by
    congr 1; funext j; simp [shapeCast])) $$ H'

theorem wp_ldX (c : Dev nD) (k : Fin 4) (X : FVec F S1024x1024 .f32) (Φ : Vec F S1x1024x1024 .f32 → sProp 𝕄) :
    tile c (xT k) X ⊢ iprop((∀ v, ⌜shapeCast S1024x1024 v shapeCasts_S1x1024x1024_S1024x1024 = X⌝ -∗ tile c (xT k) X -∗ Φ v) -∗ WP c (ldX k) Φ) := by
  unfold tile owns
  iintro ⟨%f, %hf, H⟩ Hk
  iapply (wp_load_rect 𝒱₀ (c : Thread nD τ) none Set.univ (m := xM) (r := xRect k) (S := (xT k).view.set) (f := f)
    (by rw [View.set_reshape])) $$ H
  iintro H
  rw [wp_ret]; imodintro
  iapply Hk
  · ipureintro; exact hf
  iexists f
  isplitr; · ipureintro; exact hf
  iexact H

/-- The quarter a strip of the weights is in. -/
def jOf (q : Fin 8) : Fin 4 := ⟨q.val / 2, by omega⟩

theorem qRect_sub (q : Fin 8) : (wM.access (qRect q)).set ⊆ (wH (jOf q)).view.set := by
  rw [View.set_slice, View.set_slice]
  refine Finset.map_subset_map.mpr fun i hi => ?_
  rw [Rect.mem_set_unit] at hi ⊢
  intro a
  have h := hi a
  revert a
  refine Fin.forall_fin_two.mpr ⟨fun h => ?_, fun h => ?_⟩
  · exact h
  · have h1 : 256 * q.val ≤ (i 1).val ∧ (i 1).val < 256 * q.val + 256 := h
    show 512 * (q.val / 2) ≤ (i 1).val ∧ (i 1).val < 512 * (q.val / 2) + 512
    omega

theorem wp_ldW (c : Dev nD) (q : Fin 8) (Φ : Vec F S1024x256 .f32 → sProp 𝕄) :
    wq m c (jOf q) ⊢ iprop((wq m c (jOf q) -∗ Φ (strip m c q)) -∗ WP c (ldW q) Φ) := by
  unfold wq
  iintro H Hk
  iapply (wp_load_rect 𝒱₀ (c : Thread nD τ) none Set.univ (m := wM) (r := qRect q) (S := (wH (jOf q)).view.set) (f := A1 m c) (qRect_sub q)) $$ H
  iintro H
  rw [wp_ret]; imodintro
  rw [show (wM.access (qRect q)).read (Elt F) (A1 m c) = strip m c q from rfl]
  iapply Hk
  iexact H

theorem wp_part (c : Dev nD) (k : Fin 4) (q : Fin 8) (Φ : FVec F S1024x256 .f32 → sProp 𝕄) :
    iprop(tile c (xT k) (chunk m c k) ∗ wq m c (jOf q))
      ⊢ iprop((tile c (xT k) (chunk m c k) ∗ wq m c (jOf q) -∗ Φ (prod m c k q)) -∗ WP c (part k q) Φ) := by
  unfold part
  simp only [WP_bind, WP_pure]
  iintro ⟨Hx, Hw⟩ Hk
  iapply (wp_ldX c k _ _) $$ Hx
  iintro %v %hv Hx
  iapply (wp_ldW m c q _) $$ Hw
  iintro Hw
  imodintro
  rw [show mm v (strip m c q) = prod m c k q from by unfold mm prod; rw [hv]]
  iapply Hk
  isplitl [Hx] <;> iassumption

/-- The slot the first stage of a ring multiplies from. -/
theorem produce_slot (d : Bool) : (bif d then (0 : Fin 4) else 1) = slotOf d 0 := by cases d <;> rfl

theorem acc_zero (d : Bool) (s : Fin 4) (c : Dev nD) : acc m d s 0 c = prod m c (slotOf d 0) (qOf d s) := by conv_lhs => rw [acc]
theorem acc_one (d : Bool) (s : Fin 4) (c : Dev nD) :
    acc m d s 1 c = addf (acc m d s 0 (tow (!d) c)) (prod m c (slotOf d 1) (qOf d s)) := by conv_lhs => rw [acc]
theorem acc_two (d : Bool) (s : Fin 4) (c : Dev nD) :
    acc m d s 2 c = addf (acc m d s 1 (tow (!d) c)) (prod m c (slotOf d 2) (qOf d s)) := by conv_lhs => rw [acc]
theorem acc_three (d : Bool) (s : Fin 4) (c : Dev nD) :
    acc m d s 3 c = addf (acc m d s 2 (tow (!d) c)) (prod m c (slotOf d 3) (qOf d s)) := by conv_lhs => rw [acc]

theorem wp_produce (c : Dev nD) (d : Bool) (s : Fin 4) (Φ : PUnit → sProp 𝕄) :
    iprop(tile c (xT (slotOf d 0)) (chunk m c (slotOf d 0)) ∗ wq m c (jOf (qOf d s)) ∗ any c (cT d 0 s))
      ⊢ iprop((tile c (xT (slotOf d 0)) (chunk m c (slotOf d 0)) ∗ wq m c (jOf (qOf d s)) ∗ tile c (cT d 0 s) (acc m d s 0 c) -∗ Φ ⟨⟩)
        -∗ WP c (produce d s) Φ) := by
  unfold produce
  rw [acc_zero]
  simp only [produce_slot, WP_bind]
  iintro ⟨Hx, Hw, Hc⟩ Hk
  iapply (wp_part m c (slotOf d 0) (qOf d s) _) $$ [Hx Hw]
  · isplitl [Hx] <;> iassumption
  iintro ⟨Hx, Hw⟩
  ihave Hc' := (any_tile c (cT d 0 s)) $$ Hc
  icases Hc' with ⟨%X, Hc⟩
  iapply (wp_ldC c d 0 s X _) $$ Hc
  iintro %v - Hc
  iapply (wp_stC c d 0 s (prod m c (slotOf d 0) (qOf d s)) _) $$ [Hc]
  · iapply (tile_any c (cT d 0 s) X); iexact Hc
  iintro Hc
  iapply Hk
  isplitl [Hx]; · iexact Hx
  isplitl [Hw]; · iexact Hw
  iexact Hc

theorem wp_addIn (c : Dev nD) (d : Bool) (b : Fin 2) (s : Fin 4) (X v : FVec F S1024x256 .f32) (Φ : PUnit → sProp 𝕄) :
    tile c (cT d b s) X ⊢ iprop((tile c (cT d b s) (addf X v) -∗ Φ ⟨⟩) -∗ WP c (addIn d b s v) Φ) := by
  unfold addIn
  simp only [WP_bind]
  iintro Hc Hk
  iapply (wp_ldC c d b s X _) $$ Hc
  iintro %a %ha Hc
  iapply (wp_ldC c d b s X _) $$ Hc
  iintro %a' - Hc
  rw [ha]
  iapply (wp_stC c d b s (addf X v) _) $$ [Hc]
  · iapply (tile_any c (cT d b s) X); iexact Hc
  iexact Hk

theorem addLast_cast (v : FVec F S1024x256 .f32) : shapeCast S1024x256 v shapeCasts_S1024x256_S1024x256 = v := by
  funext j; simp [shapeCast]

theorem wp_addLast (c : Dev nD) (s : Fin 4) (a b v w : FVec F S1024x256 .f32) (Φ : FVec F S1024x256 .f32 × FVec F S1024x256 .f32 → sProp 𝕄) :
    iprop(tile c (yT (qOf true s)) a ∗ tile c (yT (qOf false s)) b)
      ⊢ iprop((tile c (yT (qOf true s)) (addf a v) ∗ tile c (yT (qOf false s)) (addf b w) -∗ Φ (addf a v, addf b w))
        -∗ WP c (addLast s (v, w)) Φ) := by
  unfold addLast
  simp only [WP_bind, WP_pure]
  iintro ⟨Ha, Hb⟩ Hk
  iapply (wp_ldY c (qOf true s) a _) $$ Ha
  iintro Ha
  iapply (wp_ldY c (qOf false s) b _) $$ Hb
  iintro Hb
  iapply (wp_ldY c (qOf true s) a _) $$ Ha
  iintro Ha
  iapply (wp_stY c (qOf true s) (addf a v) _) $$ [Ha]
  · iapply (tile_any c (yT (qOf true s)) a); iexact Ha
  iintro Ha
  iapply (wp_ldY c (qOf false s) b _) $$ Hb
  iintro Hb
  iapply (wp_stY c (qOf false s) (addf b w) _) $$ [Hb]
  · iapply (tile_any c (yT (qOf false s)) b); iexact Hb
  iintro Hb
  imodintro
  iapply Hk
  isplitl [Ha] <;> iassumption

theorem amxAll_cast (x : F .f32) : shapeCast S8x128 (amxAll x) shapeCasts_S1x8x128_S8x128 = broadcast S8x128 x := by
  funext j; rfl

theorem wp_stA (c : Dev nD) (x : F .f32) (Φ : PUnit → sProp 𝕄) :
    any c (aT 0) ⊢ iprop((tile c (aT 0) (broadcast S8x128 x) -∗ Φ ⟨⟩) -∗ WP c (stA (amxAll x)) Φ) := by
  unfold stA
  simp only [WP_bind]
  unfold any slot tile owns
  iintro ⟨%f, H⟩ Hk
  iapply (wp_load_rect 𝒱₀ (c : Thread nD τ) none Set.univ (m := aM) (r := aRect 0) (S := (aT 0).view.set) (f := f)
    (by rw [View.set_reshape])) $$ H
  iintro H
  rw [wp_ret]; imodintro
  iapply (wp_store 𝒱₀ (c : Thread nD τ) none Set.univ (m := aM) (r := aRect 0) (w := amxAll x) (Mk := Finset.univ)
    (S := (aT 0).view.set) (f := f) (by rw [View.set_reshape]; exact subset_rfl)) $$ H
  iintro H
  rw [wp_ret]; imodintro
  iapply Hk
  iexists _
  isplitr
  rotate_left
  · iexact H
  ipureintro
  exact (congrArg (fun v => shapeCast S8x128 v shapeCasts_S1x8x128_S8x128)
    (View.read_write_univ (v := aM.access (aRect 0)) f (amxAll x))).trans (amxAll_cast x)

theorem a1_sub (j : Fin 4) : (aM.access (a1Rect j)).set ⊆ (aT j).view.set := by
  rw [View.set_reshape, View.set_slice]
  show _ ⊆ (View.slice aM.view (aRect j)).set
  rw [View.set_slice]
  refine Finset.map_subset_map.mpr fun i hi => ?_
  rw [Rect.mem_set_unit] at hi ⊢
  intro a
  have h := hi a
  revert a
  refine (Fin.forall_fin_succ (n := 2)).mpr ⟨fun h => h, Fin.forall_fin_two.mpr ⟨fun h => ?_, fun h => ?_⟩⟩
  · have h1 : 0 ≤ (i 1).val ∧ (i 1).val < 0 + 1 := h
    show 0 ≤ (i 1).val ∧ (i 1).val < 0 + 8
    omega
  · have h1 : 0 ≤ (i 2).val ∧ (i 2).val < 0 + 1 := h
    show 0 ≤ (i 2).val ∧ (i 2).val < 0 + 128
    omega

theorem at0_read (j : Fin 4) (x : F .f32) (f : aM.view.ty.Contents (Elt F)) (hf : (aT j).view.read (Elt F) f = broadcast S8x128 x) :
    at0 ((aM.access (a1Rect j)).read (Elt F) f) = x := by
  have h := congrFun hf (Shape.reshapeEquiv squeezes_S1x8x128_S8x128.numel_eq.symm (fun a => ⟨0, by revert a; decide⟩))
  refine Eq.trans ?_ h
  show f _ = f _
  congr 1
  show (a1Rect j).emb _ = (aRect j).emb (Shape.reshapeEquiv _ (Shape.reshapeEquiv _ _))
  rw [Shape.reshapeEquiv_reshapeEquiv, Shape.reshapeEquiv_self]
  funext a
  revert a
  refine (Fin.forall_fin_succ (n := 2)).mpr ⟨?_, Fin.forall_fin_two.mpr ⟨?_, ?_⟩⟩ <;> rfl

theorem wp_ldA (c : Dev nD) (j : Fin 4) (q : PosShare TreeShare) (x : F .f32) (Φ : F .f32 → sProp 𝕄) :
    owns (c : Thread nD τ) (aT j) q (broadcast S8x128 x)
      ⊢ iprop((owns (c : Thread nD τ) (aT j) q (broadcast S8x128 x) -∗ Φ x) -∗ WP c (ldA j) Φ) := by
  unfold ldA
  simp only [WP_bind, WP_pure]
  unfold owns
  iintro ⟨%f, %hf, H⟩ Hk
  iapply (wp_load_rect 𝒱₀ (c : Thread nD τ) none Set.univ (m := aM) (r := a1Rect j) (S := (aT j).view.set) (f := f) (a1_sub j)) $$ H
  iintro H
  rw [wp_ret]; imodintro
  rw [at0_read j x f hf]
  imodintro
  iapply Hk
  iexists f
  isplitr; · ipureintro; exact hf
  iexact H

theorem owns_join (c : Dev nD) {sp : Space} {s : Shape} {e : EltTy} (M : Memref sig .tc sp s e) {q q₁ q₂ : PosShare TreeShare} (h : q ∈ PCS.op q₁ q₂)
    (X : s.Idx → Elt F e) :
    iprop(owns (c : Thread nD τ) M q₁ X ∗ owns (c : Thread nD τ) M q₂ X) ⊢ (owns (c : Thread nD τ) M q X : sProp 𝕄) := by
  unfold owns
  iintro ⟨⟨%f, %hf, Hl⟩, ⟨%g, -, Hr⟩⟩
  iexists f
  isplitr; · ipureintro; exact hf
  iapply (show iprop((M.view.loc (c : Thread nD τ) ↦[M.view.set]{q₁} f) ∗ (M.view.loc (c : Thread nD τ) ↦[M.view.set]{q₂} g))
      ⊢ (M.view.loc (c : Thread nD τ) ↦[M.view.set]{q} f : sProp 𝕄) from
    pure_elim _ pointsTo_agree fun hv => by
      rw [pointsTo_congr (f := g) (g := f) (fun i hi => ((hv i (Finset.mem_inter.mpr ⟨hi, hi⟩)).1).symm)]
      exact (pointsTo_share h).2) $$ [Hl Hr]
  isplitl [Hl] <;> iassumption
theorem owns_split (c : Dev nD) {sp : Space} {s : Shape} {e : EltTy} (M : Memref sig .tc sp s e) {q q₁ q₂ : PosShare TreeShare} (h : q ∈ PCS.op q₁ q₂)
    (X : s.Idx → Elt F e) :
    (owns (c : Thread nD τ) M q X : sProp 𝕄) ⊢ iprop(owns (c : Thread nD τ) M q₁ X ∗ owns (c : Thread nD τ) M q₂ X) := by
  unfold owns
  iintro ⟨%f, %hf, H⟩
  ihave H' := (pointsTo_share h).1 $$ H
  icases H' with ⟨Hl, Hr⟩
  isplitl [Hl]
  · iexists f
    isplitr; · ipureintro; exact hf
    iexact Hl
  · iexists f
    isplitr; · ipureintro; exact hf
    iexact Hr

theorem wp_out (c : Dev nD) (j : Fin 4) (Φ : PUnit → sProp 𝕄) :
    iprop(ctx m K I ∗ tok c (.oc j) 0 ∗ tile c (yH j) (yQuarter m c j) ∗ any c (oT j))
      ⊢ iprop((crdt c (.oc j) 0 -∗ Φ ⟨⟩) -∗ WP c (out (scale m c) j) Φ) := by
  unfold out
  simp only [WP_bind]
  iintro ⟨#C, Ht, H, Ho⟩ Hk
  ihave H' := (owns_open c (yH j) fullShare (yQuarter m c j)) $$ H
  icases H' with ⟨%f, %hf, H⟩
  iapply (wp_load_rect 𝒱₀ (c : Thread nD τ) none Set.univ (m := yM) (r := hRect j) (S := (yH j).view.set) (f := f) subset_rfl) $$ H
  iintro H
  rw [wp_ret]; imodintro
  iapply (wp_load_rect 𝒱₀ (c : Thread nD τ) none Set.univ (m := yM) (r := hRect j) (S := (yH j).view.set) (f := f) subset_rfl) $$ H
  iintro H
  rw [wp_ret]; imodintro
  iapply (wp_store 𝒱₀ (c : Thread nD τ) none Set.univ (m := yM) (r := hRect j) (w := quant (scale m c) ((yM.access (hRect j)).read (Elt F) f)) (Mk := Finset.univ)
    (S := (yH j).view.set) (f := f) subset_rfl) $$ H
  iintro H
  rw [wp_ret]; imodintro
  ihave H := (tile_written c (yH j) f (quant (scale m c) ((yM.access (hRect j)).read (Elt F) f))) $$ H
  rw [show (yM.access (hRect j)).read (Elt F) f = yQuarter m c j from hf]
  iapply (wp_cpO m K I c j _) $$ [Ht H Ho]
  · isplitr; · iexact C
    isplitl [Ht]; · iexact Ht
    isplitl [H] <;> iassumption
  iexact Hk

end Cert.KernelIdeal.Body

end
-- ==== Proof.Strips.lean ====
/-
  The stages of a strip: sending on, receiving and accumulating, the middle of the first two hops, the last sums.
-/
module

public import proofs.«01_k».proof.Proof.Tiles

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CellK → ℕ) (I : Key → ℕ)

/-! ## Bundles -/

/-- The same for both rings. -/
def both (P : Bool → sProp 𝕄) : sProp 𝕄 := iprop(P true ∗ P false)
/-- The same for the four strips of a ring. -/
def all4 (P : Fin 4 → sProp 𝕄) : sProp 𝕄 := iprop(P 0 ∗ P 1 ∗ P 2 ∗ P 3)

/-- A hop under way, and over. -/
def Fly (c : Dev nD) (d : Bool) (h : Fin 3) (s : Fin 4) : sProp 𝕄 :=
  iprop(posn c (.snd d h s) ∗ posn c (.rcv d h s) ∗ crdt c (.snd d h s) 0 ∗ crdt c (.rcv d h s) 0)
def Shut (c : Dev nD) (d : Bool) (h : Fin 3) (s : Fin 4) : sProp 𝕄 := iprop(done c (.snd d h s) ∗ done c (.rcv d h s))

/-- All that is owed is above level `n`. -/
def above (n : ℕ) (l : List Item) : Prop := ∀ x ∈ l, n < level x.cell x.ix

theorem above_nil (n : ℕ) : above n [] := fun _ h => absurd h (List.not_mem_nil)
theorem above_cons {n : ℕ} {x : Item} {l : List Item} (hx : n < level x.cell x.ix) (h : above n l) : above n (x :: l) :=
  List.forall_mem_cons.mpr ⟨hx, h⟩
theorem above_mono {n n' : ℕ} {l : List Item} (h : above n l) (hn : n' ≤ n) : above n' l := fun x hx => hn.trans_lt (h x hx)

theorem extra_emp (t : Dev nD) (d : Bool) (h : Fin 3) (s : Fin 4) (hn : ¬(d = false ∧ h = 0 ∧ s = 0)) :
    (emp : sProp 𝕄) ⊢ extra t d h s := by
  unfold extra; rw [if_neg hn]

/-! ## Sending a strip of each ring on -/

theorem wp_sends (c : Dev nD) (h : Fin 3) (s : Fin 4) (l : List Item) (Φ : PUnit → sProp 𝕄) :
    iprop(ctx m K I ∗ both (fun d => Hop c d h s) ∗ both (fun d => tile c (srcT d h s) (acc m d s h.castSucc c))
        ∗ both (fun d => any (tow d c) (dstT d h s)) ∗ both (fun d => extra (tow d c) d h s)
        ∗ ow c (.rcv true h s :: .rcv false h s :: l))
      ⊢ iprop(((ow c l ∗ both (fun d => Fly c d h s)) -∗ Φ ⟨⟩)
        -∗ WP c (send true h s (nxt c)) fun _ => WP c (send false h s (prv c)) Φ) := by
  unfold both Hop Fly
  iintro ⟨#C, ⟨⟨P1, P2, T1, T2, R1⟩, ⟨P3, P4, T3, T4, R2⟩⟩, ⟨S1, S2⟩, ⟨D1, D2⟩, ⟨X1, X2⟩, O⟩ Hk
  iapply (wp_send m K I c (nxt c) true h s rfl _ _) $$ [T1 T2 S1 D1 X1 O]
  · isplitr; · iexact C
    isplitl [T1]; · iexact T1
    isplitl [T2]; · iexact T2
    isplitl [S1]; · iexact S1
    isplitl [D1]; · iexact D1
    isplitl [X1]; · iexact X1
    iexact O
  iintro ⟨O, C1⟩
  iapply (wp_send m K I c (prv c) false h s rfl _ _) $$ [T3 T4 S2 D2 X2 O]
  · isplitr; · iexact C
    isplitl [T3]; · iexact T3
    isplitl [T4]; · iexact T4
    isplitl [S2]; · iexact S2
    isplitl [D2]; · iexact D2
    isplitl [X2]; · iexact X2
    iexact O
  iintro ⟨O, C2⟩
  iapply Hk
  isplitl [O]; · iexact O
  isplitl [P1 P2 C1 R1]
  · isplitl [P1]; · iexact P1
    isplitl [P2]; · iexact P2
    isplitl [C1] <;> iassumption
  · isplitl [P3]; · iexact P3
    isplitl [P4]; · iexact P4
    isplitl [C2] <;> iassumption

/-! ## Receiving and adding -/

theorem pay_rcv (c : Dev nD) (d : Bool) (h : Fin 3) (b : Fin 2) (s : Fin 4) (hb : dstT d h s = cT d b s) :
    pay m c (.rcv d h s) 0 ⊢ (iprop(tile c (cT d b s) (acc m d s h.castSucc (tow (!d) c)) ∗ extra c d h s) : sProp 𝕄) := by
  rw [← hb]; exact .rfl

/-- The two waits for what arrives. -/
theorem wp_wtR2 (c : Dev nD) (h : Fin 3) (s : Fin 4) (l : List Item) (hl : above (level (.rcv true h s) 0) l) (Φ : PUnit → sProp 𝕄) :
    iprop(ctx m K I ∗ both (fun d => posn c (.rcv d h s)) ∗ both (fun d => crdt c (.rcv d h s) 0) ∗ ow c l)
      ⊢ iprop(((ow c l ∗ both (fun d => pay m c (.rcv d h s) 0) ∗ both (fun d => done c (.rcv d h s))) -∗ Φ ⟨⟩)
        -∗ WP c (wtR true h s) fun _ => WP c (wtR false h s) Φ) := by
  unfold both
  iintro ⟨#C, ⟨P1, P2⟩, ⟨R1, R2⟩, O⟩ Hk
  iapply (wp_wtR m K I c true h s l hl _) $$ [P1 R1 O]
  · isplitr; · iexact C
    isplitl [P1]; · iexact P1
    isplitl [R1] <;> iassumption
  iintro ⟨O, Y1, D1⟩
  iapply (wp_wtR m K I c false h s l hl _) $$ [P2 R2 O]
  · isplitr; · iexact C
    isplitl [P2]; · iexact P2
    isplitl [R2] <;> iassumption
  iintro ⟨O, Y2, D2⟩
  iapply Hk
  isplitl [O]; · iexact O
  isplitl [Y1 Y2]
  · isplitl [Y1]; · iexact Y1
    iexact Y2
  · isplitl [D1] <;> iassumption

/-- The two waits for what was sent. -/
theorem wp_wtS2 (c : Dev nD) (h : Fin 3) (s : Fin 4) (l : List Item) (hl : above 0 l) (Φ : PUnit → sProp 𝕄) :
    iprop(ctx m K I ∗ both (fun d => posn c (.snd d h s)) ∗ both (fun d => crdt c (.snd d h s) 0) ∗ ow c l)
      ⊢ iprop(((ow c l ∗ both (fun d => any c (srcT d h s)) ∗ both (fun d => done c (.snd d h s))) -∗ Φ ⟨⟩)
        -∗ WP c (wtS true h s) fun _ => WP c (wtS false h s) Φ) := by
  unfold both
  iintro ⟨#C, ⟨P1, P2⟩, ⟨R1, R2⟩, O⟩ Hk
  iapply (wp_wtS m K I c true h s l hl _) $$ [P1 R1 O]
  · isplitr; · iexact C
    isplitl [P1]; · iexact P1
    isplitl [R1] <;> iassumption
  iintro ⟨O, Y1, D1⟩
  iapply (wp_wtS m K I c false h s l hl _) $$ [P2 R2 O]
  · isplitr; · iexact C
    isplitl [P2]; · iexact P2
    isplitl [R2] <;> iassumption
  iintro ⟨O, Y2, D2⟩
  iapply Hk
  isplitl [O]; · iexact O
  isplitl [Y1 Y2]
  · isplitl [Y1]
    · iapply (show pay m c (.snd true h s) 0 ⊢ any c (srcT true h s) from .rfl); iexact Y1
    · iapply (show pay m c (.snd false h s) 0 ⊢ any c (srcT false h s) from .rfl); iexact Y2
  · isplitl [D1] <;> iassumption

theorem wp_recvAdd (c : Dev nD) (h : Fin 3) (b : Fin 2) (s : Fin 4) (hb : ∀ d, dstT d h s = cT d b s) (v : Bool → FVec F S1024x256 .f32)
    (l : List Item) (hl : above (level (.rcv true h s) 0) l) (Φ : PUnit → sProp 𝕄) :
    iprop(ctx m K I ∗ both (fun d => Fly c d h s) ∗ ow c l)
      ⊢ iprop(((ow c l ∗ both (fun d => tile c (cT d b s) (addf (acc m d s h.castSucc (tow (!d) c)) (v d)))
          ∗ both (fun d => any c (srcT d h s)) ∗ both (fun d => extra c d h s) ∗ both (fun d => Shut c d h s)) -∗ Φ ⟨⟩)
        -∗ WP c (recvAdd h b s (v true) (v false)) Φ) := by
  unfold recvAdd
  simp only [WP_bind]
  unfold Fly Shut
  iintro ⟨#C, F, O⟩ Hk
  ihave F' := (show both (fun d => iprop(posn c (.snd d h s) ∗ posn c (.rcv d h s) ∗ crdt c (.snd d h s) 0 ∗ crdt c (.rcv d h s) 0))
    ⊢ (iprop(((posn c (.snd true h s) ∗ posn c (.rcv true h s) ∗ crdt c (.snd true h s) 0 ∗ crdt c (.rcv true h s) 0)
      ∗ (posn c (.snd false h s) ∗ posn c (.rcv false h s) ∗ crdt c (.snd false h s) 0 ∗ crdt c (.rcv false h s) 0))) : sProp 𝕄) from .rfl) $$ F
  icases F' with ⟨⟨P1, P2, S1, S2⟩, ⟨P3, P4, S3, S4⟩⟩
  iapply (wp_wtR2 m K I c h s l hl _) $$ [P2 P4 S2 S4 O]
  · unfold both
    isplitr; · iexact C
    isplitl [P2 P4]
    · isplitl [P2]; · iexact P2
      iexact P4
    isplitl [S2 S4]
    · isplitl [S2]; · iexact S2
      iexact S4
    iexact O
  unfold both
  iintro ⟨O, ⟨Y1, Y2⟩, ⟨D1, D2⟩⟩
  ihave Y1' := (pay_rcv m c true h b s (hb true)) $$ Y1
  icases Y1' with ⟨Y1, X1⟩
  ihave Y2' := (pay_rcv m c false h b s (hb false)) $$ Y2
  icases Y2' with ⟨Y2, X2⟩
  iapply (wp_addIn c true b s _ (v true) _) $$ Y1
  iintro Y1
  iapply (wp_addIn c false b s _ (v false) _) $$ Y2
  iintro Y2
  iapply (wp_wtS2 m K I c h s l (above_mono hl (Nat.zero_le _)) _) $$ [P1 P3 S1 S3 O]
  · unfold both
    isplitr; · iexact C
    isplitl [P1 P3]
    · isplitl [P1]; · iexact P1
      iexact P3
    isplitl [S1 S3]
    · isplitl [S1]; · iexact S1
      iexact S3
    iexact O
  unfold both
  iintro ⟨O, ⟨Z1, Z2⟩, ⟨D3, D4⟩⟩
  iapply Hk
  isplitl [O]; · iexact O
  isplitl [Y1 Y2]
  · isplitl [Y1]; · iexact Y1
    iexact Y2
  isplitl [Z1 Z2]
  · isplitl [Z1]; · iexact Z1
    iexact Z2
  isplitl [X1 X2]
  · isplitl [X1]; · iexact X1
    iexact X2
  isplitl [D1 D3]
  · isplitl [D3] <;> iassumption
  · isplitl [D4] <;> iassumption

/-! ## The middle of the hops -/

/-- The product of ring `d`'s stage `h` for its strip `s`. -/
abbrev mine (c : Dev nD) (h : Fin 4) (s : Fin 4) (d : Bool) : FVec F S1024x256 .f32 := prod m c (slotOf d h) (qOf d s)

/-- What the middle of the first hop takes, and gives. -/
def Pre0 (c : Dev nD) (s : Fin 4) : sProp 𝕄 :=
  iprop(both (fun d => Fly c d 0 s) ∗ both (fun d => Twice c d s) ∗ both (fun d => Hop c d 1 s))
def Post0 (c : Dev nD) (s : Fin 4) : sProp 𝕄 :=
  iprop(both (fun d => Fly c d 1 s) ∗ both (fun d => extra c d 0 s) ∗ both (fun d => Shut c d 0 s))
/-- The credits given and taken so far. -/
def Cr (c : Dev nD) (n : ℕ) : sProp 𝕄 := iprop(both (fun d => heard c d n) ∗ both (fun d => Credits c d n))

theorem wp_mid0 (c : Dev nD) (s : Fin 4) (n : ℕ) (hn : s.val = n) (l : List Item) (hl : above (10 + n) l) (Φ : PUnit → sProp 𝕄) :
    iprop(ctx m K I ∗ Pre0 c s ∗ Cr c n ∗ ow c (.crd true s :: .crd false s :: .rcv true 1 s :: .rcv false 1 s :: l))
      ⊢ iprop(((ow c l ∗ Cr c (n + 1) ∗ Post0 c s) -∗ Φ ⟨⟩)
        -∗ WP c (mid0 (nxt c) (prv c) s (mine m c 1 s true) (mine m c 1 s false)) Φ) := by
  subst hn
  have hs : s.val < 4 := s.isLt
  have l1 : above (10 + s.val) (.rcv true 1 s :: .rcv false 1 s :: l) :=
    above_cons (show 10 + s.val < 20 by omega) (above_cons (show 10 + s.val < 20 by omega) hl)
  have l2 : above 5 (.crd true s :: .crd false s :: .rcv true 1 s :: .rcv false 1 s :: l) :=
    above_cons (show 5 < 10 + s.val by omega) (above_cons (show 5 < 10 + s.val by omega) (above_mono l1 (by omega)))
  unfold mid0
  simp only [WP_bind]
  unfold Pre0 Post0 Cr
  iintro ⟨#C, ⟨F, W, H⟩, ⟨E, R⟩, O⟩ Hk
  iapply (wp_recvAdd m K I c 0 1 s (fun _ => rfl) (mine m c 1 s) _ l2 _) $$ [F O]
  · isplitr; · iexact C
    isplitl [F] <;> iassumption
  iintro ⟨O, Y, Z, X, D⟩
  ihave W' := (show both (fun d => Twice c d s) ⊢ (iprop(Twice c true s ∗ Twice c false s) : sProp 𝕄) from .rfl) $$ W
  ihave E' := (show both (fun d => heard c d s.val) ⊢ (iprop(heard c true s.val ∗ heard c false s.val) : sProp 𝕄) from .rfl) $$ E
  ihave R' := (show both (fun d => Credits c d s.val) ⊢ (iprop(Credits c true s.val ∗ Credits c false s.val) : sProp 𝕄) from .rfl) $$ R
  ihave Z' := (show both (fun d => any c (srcT d 0 s)) ⊢ (iprop(any c (cT true 0 s) ∗ any c (cT false 0 s)) : sProp 𝕄) from .rfl) $$ Z
  unfold Twice
  icases W' with ⟨⟨T1, C1, V1, U1⟩, ⟨T2, C2, V2, U2⟩⟩
  icases E' with ⟨E1, E2⟩
  icases R' with ⟨R1, R2⟩
  icases Z' with ⟨Z1, Z2⟩
  iapply (wp_sgC m K I c (prv c) true s rfl _ _) $$ [Z1 V1 E1 T1 O]
  · isplitr; · iexact C
    isplitl [Z1]; · iexact Z1
    isplitl [V1]; · iexact V1
    isplitl [E1]; · iexact E1
    isplitl [T1] <;> iassumption
  iintro ⟨O, E1⟩
  iapply (wp_sgC m K I c (nxt c) false s rfl _ _) $$ [Z2 V2 E2 T2 O]
  · isplitr; · iexact C
    isplitl [Z2]; · iexact Z2
    isplitl [V2]; · iexact V2
    isplitl [E2]; · iexact E2
    isplitl [T2] <;> iassumption
  iintro ⟨O, E2⟩
  iapply (wp_wtC m K I c true s _ l1 _) $$ [R1 C1 U1 O]
  · isplitr; · iexact C
    isplitl [R1]; · iexact R1
    isplitl [C1]; · iexact C1
    isplitl [U1] <;> iassumption
  iintro ⟨O, R1, N1⟩
  iapply (wp_wtC m K I c false s _ l1 _) $$ [R2 C2 U2 O]
  · isplitr; · iexact C
    isplitl [R2]; · iexact R2
    isplitl [C2]; · iexact C2
    isplitl [U2] <;> iassumption
  iintro ⟨O, R2, N2⟩
  iapply (wp_sends m K I c 1 s l _) $$ [H Y N1 N2 O]
  · isplitr; · iexact C
    isplitl [H]; · iexact H
    isplitl [Y]
    · iapply (Entails.of_eq (show both (fun d => tile c (cT d 1 s) (addf (acc m d s 0 (tow (!d) c)) (mine m c 1 s d)))
        = (both (fun d => tile c (srcT d 1 s) (acc m d s 1 c)) : sProp 𝕄) from congrArg both (funext fun d => by rw [acc_one]; rfl)))
      iexact Y
    isplitl [N1 N2]
    · unfold both
      isplitl [N1]; · iexact N1
      iexact N2
    isplitr
    · unfold both
      isplitl []
      · iapply (extra_emp (F := F) (tow true c) true 1 s (by rintro ⟨_, h, _⟩; exact absurd h (by decide))); iempintro
      · iapply (extra_emp (F := F) (tow false c) false 1 s (by rintro ⟨_, h, _⟩; exact absurd h (by decide))); iempintro
    iexact O
  iintro ⟨O, F⟩
  iapply Hk
  isplitl [O]; · iexact O
  isplitl [E1 E2 R1 R2]
  · unfold both
    isplitl [E1 E2]
    · isplitl [E1]; · iexact E1
      iexact E2
    · isplitl [R1] <;> iassumption
  isplitl [F]; · iexact F
  isplitl [X] <;> iassumption

/-- What the middle of the second hop takes, and gives. -/
def Pre1 (c : Dev nD) (s : Fin 4) : sProp 𝕄 :=
  iprop(both (fun d => Fly c d 1 s) ∗ both (fun d => Hop c d 2 s) ∗ both (fun d => any (tow d c) (yT (qOf d s))))
def Post1 (c : Dev nD) (s : Fin 4) : sProp 𝕄 :=
  iprop(both (fun d => Fly c d 2 s) ∗ both (fun d => any c (cT d 1 s)) ∗ both (fun d => Shut c d 1 s))

theorem wp_mid1 (c : Dev nD) (s : Fin 4) (l : List Item) (hl : above 20 l) (Φ : PUnit → sProp 𝕄) :
    iprop(ctx m K I ∗ Pre1 c s ∗ ow c (.rcv true 2 s :: .rcv false 2 s :: l))
      ⊢ iprop(((ow c l ∗ Post1 c s) -∗ Φ ⟨⟩)
        -∗ WP c (mid1 (nxt c) (prv c) s (mine m c 2 s true) (mine m c 2 s false)) Φ) := by
  have l2 : above 20 (.rcv true 2 s :: .rcv false 2 s :: l) :=
    above_cons (show 20 < 30 by decide) (above_cons (show 20 < 30 by decide) hl)
  unfold mid1
  simp only [WP_bind]
  unfold Pre1 Post1
  iintro ⟨#C, ⟨F, H, N⟩, O⟩ Hk
  iapply (wp_recvAdd m K I c 1 0 s (fun _ => rfl) (mine m c 2 s) _ l2 _) $$ [F O]
  · isplitr; · iexact C
    isplitl [F] <;> iassumption
  iintro ⟨O, Y, Z, -, D⟩
  iapply (wp_sends m K I c 2 s l _) $$ [H Y N O]
  · isplitr; · iexact C
    isplitl [H]; · iexact H
    isplitl [Y]
    · iapply (Entails.of_eq (show both (fun d => tile c (cT d 0 s) (addf (acc m d s 1 (tow (!d) c)) (mine m c 2 s d)))
        = (both (fun d => tile c (srcT d 2 s) (acc m d s 2 c)) : sProp 𝕄) from congrArg both (funext fun d => by rw [acc_two]; rfl)))
      iexact Y
    isplitl [N]; · iexact N
    isplitr
    · unfold both
      isplitl []
      · iapply (extra_emp (F := F) (tow true c) true 2 s (by rintro ⟨_, h, _⟩; exact absurd h (by decide))); iempintro
      · iapply (extra_emp (F := F) (tow false c) false 2 s (by rintro ⟨_, h, _⟩; exact absurd h (by decide))); iempintro
    iexact O
  iintro ⟨O, F⟩
  iapply Hk
  isplitl [O]; · iexact O
  isplitl [F]; · iexact F
  isplitl [Z]; · iexact Z
  iexact D

/-- What the last sums of a strip give. -/
def Post2 (c : Dev nD) (s : Fin 4) : sProp 𝕄 :=
  iprop(both (fun d => tile c (yT (qOf d s)) (acc m d s 3 c)) ∗ both (fun d => any c (cT d 0 s)) ∗ both (fun d => Shut c d 2 s))

theorem wp_last (c : Dev nD) (s : Fin 4) (x : F .f32) (l : List Item) (hl : above 30 l) (Φ : F .f32 → sProp 𝕄) :
    iprop(ctx m K I ∗ both (fun d => Fly c d 2 s) ∗ ow c l)
      ⊢ iprop(((ow c l ∗ Post2 m c s) -∗ Φ (amxStep x (acc m true s 3 c, acc m false s 3 c)))
        -∗ WP c (last s (mine m c 3 s true) (mine m c 3 s false) x) Φ) := by
  unfold last
  simp only [WP_bind, WP_pure]
  unfold Post2 Fly Shut
  iintro ⟨#C, F, O⟩ Hk
  ihave F' := (show both (fun d => iprop(posn c (.snd d 2 s) ∗ posn c (.rcv d 2 s) ∗ crdt c (.snd d 2 s) 0 ∗ crdt c (.rcv d 2 s) 0))
    ⊢ (iprop(((posn c (.snd true 2 s) ∗ posn c (.rcv true 2 s) ∗ crdt c (.snd true 2 s) 0 ∗ crdt c (.rcv true 2 s) 0)
      ∗ (posn c (.snd false 2 s) ∗ posn c (.rcv false 2 s) ∗ crdt c (.snd false 2 s) 0 ∗ crdt c (.rcv false 2 s) 0))) : sProp 𝕄) from .rfl) $$ F
  icases F' with ⟨⟨P1, P2, S1, S2⟩, ⟨P3, P4, S3, S4⟩⟩
  iapply (wp_wtR2 m K I c 2 s l hl _) $$ [P2 P4 S2 S4 O]
  · unfold both
    isplitr; · iexact C
    isplitl [P2 P4]
    · isplitl [P2]; · iexact P2
      iexact P4
    isplitl [S2 S4]
    · isplitl [S2]; · iexact S2
      iexact S4
    iexact O
  unfold both
  iintro ⟨O, ⟨Y1, Y2⟩, ⟨D1, D2⟩⟩
  ihave Y1' := (show pay m c (.rcv true 2 s) 0 ⊢ (iprop(tile c (yT (qOf true s)) (acc m true s 2 (tow (!true) c)) ∗ extra c true 2 s) : sProp 𝕄) from .rfl) $$ Y1
  icases Y1' with ⟨Y1, -⟩
  ihave Y2' := (show pay m c (.rcv false 2 s) 0 ⊢ (iprop(tile c (yT (qOf false s)) (acc m false s 2 (tow (!false) c)) ∗ extra c false 2 s) : sProp 𝕄) from .rfl) $$ Y2
  icases Y2' with ⟨Y2, -⟩
  simp only [acc_three]
  iapply (wp_addLast c s _ _ (mine m c 3 s true) (mine m c 3 s false) _) $$ [Y1 Y2]
  · isplitl [Y1]; · iexact Y1
    iexact Y2
  iintro ⟨Y1, Y2⟩
  iapply (wp_wtS2 m K I c 2 s l (above_mono hl (Nat.zero_le _)) _) $$ [P1 P3 S1 S3 O]
  · unfold both
    isplitr; · iexact C
    isplitl [P1 P3]
    · isplitl [P1]; · iexact P1
      iexact P3
    isplitl [S1 S3]
    · isplitl [S1]; · iexact S1
      iexact S3
    iexact O
  unfold both
  iintro ⟨O, ⟨Z1, Z2⟩, ⟨D3, D4⟩⟩
  imodintro
  iapply Hk
  isplitl [O]; · iexact O
  isplitl [Y1 Y2]
  · isplitl [Y1]; · iexact Y1
    iexact Y2
  isplitl [Z1 Z2]
  · isplitl [Z1]; · iexact Z1
    iexact Z2
  isplitl [D1 D3]
  · isplitl [D3] <;> iassumption
  · isplitl [D4] <;> iassumption

end Cert.KernelIdeal.Body

end
-- ==== Proof.Stages.lean ====
/-
  The stages of the body, each from what it takes to what it gives.
-/
module

public import proofs.«01_k».proof.Proof.Strips

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CellK → ℕ) (I : Key → ℕ)

/-! ## What is read throughout -/

/-- Waiting for cell `k`. -/
def Wt (c : Dev nD) (k : CellK) : sProp 𝕄 := iprop(posn c k ∗ crdt c k 0)
/-- A chunk of `x` in its slot; the parts of the arguments that copies read. -/
abbrev xs (c : Dev nD) (k : Fin 4) : sProp 𝕄 := tile c (xT k) (chunk m c k)
def srcX (c : Dev nD) (k : Fin 4) : sProp 𝕄 := ((xS c k).view.loc (c : Thread nD τ) ↦[(xS c k).view.set]{shX k} A0 m c)
def srcW (c : Dev nD) (k : Fin 4) : sProp 𝕄 := ((wS k).view.loc (c : Thread nD τ) ↦[(wS k).view.set]{fullShare} A1 m c)

theorem all4_take (P : Fin 4 → sProp 𝕄) (j : Fin 4) : all4 P ⊢ iprop(P j ∗ (P j -∗ all4 P)) := by
  unfold all4
  iintro ⟨A, B, C, D⟩
  match j with
  | 0 =>
    isplitl [A]; · iexact A
    iintro A
    isplitl [A]; · iexact A
    isplitl [B]; · iexact B
    isplitl [C] <;> iassumption
  | 1 =>
    isplitl [B]; · iexact B
    iintro B
    isplitl [A]; · iexact A
    isplitl [B]; · iexact B
    isplitl [C] <;> iassumption
  | 2 =>
    isplitl [C]; · iexact C
    iintro C
    isplitl [A]; · iexact A
    isplitl [B]; · iexact B
    isplitl [C] <;> iassumption
  | 3 =>
    isplitl [D]; · iexact D
    iintro D
    isplitl [A]; · iexact A
    isplitl [B]; · iexact B
    isplitl [C] <;> iassumption

/-! ## The products of a hop -/

theorem wp_part' (c : Dev nD) (k : Fin 4) (q : Fin 8) (P : sProp 𝕄) (hP : P ⊢ iprop(xs m c k ∗ (xs m c k -∗ P))) (Φ : FVec F S1024x256 .f32 → sProp 𝕄) :
    iprop(P ∗ all4 (wq m c)) ⊢ iprop((P ∗ all4 (wq m c) -∗ Φ (prod m c k q)) -∗ WP c (part k q) Φ) := by
  iintro ⟨H, W⟩ Hk
  ihave H' := hP $$ H
  icases H' with ⟨X, HX⟩
  ihave W' := (all4_take (wq m c) (jOf q)) $$ W
  icases W' with ⟨W, HW⟩
  iapply (wp_part m c k q _) $$ [X W]
  · isplitl [X]; · iexact X
    iexact W
  iintro ⟨X, W⟩
  iapply Hk
  isplitl [X HX]
  · iapply HX; iexact X
  · iapply HW; iexact W

theorem four_eq {α : Type} (f : Fin 4 → α) : ![f 0, f 1, f 2, f 3] = f := by
  funext i; fin_cases i <;> rfl

theorem wp_parts (c : Dev nD) (a b : Fin 4) (P : sProp 𝕄) (ha : P ⊢ iprop(xs m c a ∗ (xs m c a -∗ P))) (hb : P ⊢ iprop(xs m c b ∗ (xs m c b -∗ P)))
    (Φ : (Fin 4 → FVec F S1024x256 .f32) × (Fin 4 → FVec F S1024x256 .f32) → sProp 𝕄) :
    iprop(P ∗ all4 (wq m c))
      ⊢ iprop((P ∗ all4 (wq m c) -∗ Φ (fun s => prod m c a (qOf true s), fun s => prod m c b (qOf false s))) -∗ WP c (parts a b) Φ) := by
  unfold parts
  simp only [WP_bind, WP_pure]
  rw [← four_eq (fun s => prod m c a (qOf true s)), ← four_eq (fun s => prod m c b (qOf false s))]
  iintro H Hk
  iapply (wp_part' m c a (qOf true 0) P ha _) $$ H
  iintro H
  iapply (wp_part' m c a (qOf true 1) P ha _) $$ H
  iintro H
  iapply (wp_part' m c a (qOf true 2) P ha _) $$ H
  iintro H
  iapply (wp_part' m c a (qOf true 3) P ha _) $$ H
  iintro H
  iapply (wp_part' m c b (qOf false 0) P hb _) $$ H
  iintro H
  iapply (wp_part' m c b (qOf false 1) P hb _) $$ H
  iintro H
  iapply (wp_part' m c b (qOf false 2) P hb _) $$ H
  iintro H
  iapply (wp_part' m c b (qOf false 3) P hb _) $$ H
  iintro H
  imodintro
  iapply Hk; iexact H

/-! ## What is owed, stage by stage -/

abbrev owedA : List Item := [.amx 0, .amx 1, .amx 2]
abbrev owed2_3 : List Item := .rcv true 2 3 :: .rcv false 2 3 :: owedA
abbrev owed2_2 : List Item := .rcv true 2 2 :: .rcv false 2 2 :: owed2_3
abbrev owed2_1 : List Item := .rcv true 2 1 :: .rcv false 2 1 :: owed2_2
abbrev owed2 : List Item := .rcv true 2 0 :: .rcv false 2 0 :: owed2_1
abbrev owed1_3 : List Item := .crd true 3 :: .crd false 3 :: .rcv true 1 3 :: .rcv false 1 3 :: owed2
abbrev owed1_2 : List Item := .crd true 2 :: .crd false 2 :: .rcv true 1 2 :: .rcv false 1 2 :: owed1_3
abbrev owed1_1 : List Item := .crd true 1 :: .crd false 1 :: .rcv true 1 1 :: .rcv false 1 1 :: owed1_2
abbrev owed1 : List Item := .crd true 0 :: .crd false 0 :: .rcv true 1 0 :: .rcv false 1 0 :: owed1_1
abbrev owed0 : List Item := .rcv true 0 0 :: .rcv false 0 0 :: .rcv true 0 1 :: .rcv false 0 1 :: .rcv true 0 2 :: .rcv false 0 2
  :: .rcv true 0 3 :: .rcv false 0 3 :: owed1
/-- All that a device owes at the start. -/
abbrev owed : List Item := .bar false :: .bar true :: owed0

instance (n : ℕ) (l : List Item) : Decidable (above n l) := by unfold above; infer_instance

/-! ## The prologue -/

def CpX (c : Dev nD) (k : Fin 4) : sProp 𝕄 := iprop(tok c (.xc k) 0 ∗ srcX m c k ∗ any c (xT k))
def CpW (c : Dev nD) (k : Fin 4) : sProp 𝕄 := iprop(tok c (.wc k) 0 ∗ srcW m c k ∗ any c (wH k))

theorem wp_cpX' (c : Dev nD) (k : Fin 4) (Φ : PUnit → sProp 𝕄) :
    iprop(ctx m K I ∗ CpX m c k) ⊢ iprop((crdt c (.xc k) 0 -∗ Φ ⟨⟩) -∗ WP c (cpX c k) Φ) := wp_cpX m K I c k Φ
theorem wp_cpW' (c : Dev nD) (k : Fin 4) (Φ : PUnit → sProp 𝕄) :
    iprop(ctx m K I ∗ CpW m c k) ⊢ iprop((crdt c (.wc k) 0 -∗ Φ ⟨⟩) -∗ WP c (cpW k) Φ) := wp_cpW m K I c k Φ

theorem wp_prologue (c : Dev nD) (Φ : PUnit → sProp 𝕄) :
    iprop(ctx m K I ∗ all4 (CpX m c) ∗ all4 (CpW m c) ∗ posn c .bar ∗ both (Bar c) ∗ both (payBar c) ∗ ow c owed)
      ⊢ iprop(((ow c owed0 ∗ all4 (fun k => crdt c (.xc k) 0) ∗ all4 (fun k => crdt c (.wc k) 0) ∗ payBar (nxt c) true ∗ payBar (prv c) false
        ∗ done c .bar) -∗ Φ ⟨⟩) -∗ WP c (prologue c (nxt c) (prv c)) Φ) := by
  have l0 : above 1 owed0 := by decide
  unfold prologue
  simp only [WP_bind]
  unfold all4 both Bar
  iintro ⟨#C, ⟨X0, X1, X2, X3⟩, ⟨W0, W1, W2, W3⟩, P, ⟨⟨T1, R1⟩, ⟨T2, R2⟩⟩, ⟨Y1, Y2⟩, O⟩ Hk
  iapply (wp_cpW' m K I c 0 _) $$ [W0]
  · isplitr; · iexact C
    iexact W0
  iintro W0
  iapply (wp_cpX' m K I c 0 _) $$ [X0]
  · isplitr; · iexact C
    iexact X0
  iintro X0
  iapply (wp_cpW' m K I c 2 _) $$ [W2]
  · isplitr; · iexact C
    iexact W2
  iintro W2
  iapply (wp_cpX' m K I c 1 _) $$ [X1]
  · isplitr; · iexact C
    iexact X1
  iintro X1
  iapply (wp_cpW' m K I c 1 _) $$ [W1]
  · isplitr; · iexact C
    iexact W1
  iintro W1
  iapply (wp_cpW' m K I c 3 _) $$ [W3]
  · isplitr; · iexact C
    iexact W3
  iintro W3
  iapply (wp_cpX' m K I c 2 _) $$ [X2]
  · isplitr; · iexact C
    iexact X2
  iintro X2
  iapply (wp_cpX' m K I c 3 _) $$ [X3]
  · isplitr; · iexact C
    iexact X3
  iintro X3
  iapply (wp_sgB m K I c (prv c) false rfl _ _) $$ [T2 Y1 O]
  · isplitr; · iexact C
    isplitl [T2]; · iexact T2
    isplitl [Y1]; · iexact Y1
    iexact O
  iintro O
  iapply (wp_sgB m K I c (nxt c) true rfl _ _) $$ [T1 Y2 O]
  · isplitr; · iexact C
    isplitl [T1]; · iexact T1
    isplitl [Y2]; · iexact Y2
    iexact O
  iintro O
  iapply (wp_wtB m K I c _ l0 _) $$ [P R1 R2 O]
  · isplitr; · iexact C
    isplitl [P]; · iexact P
    isplitl [R1]; · iexact R1
    isplitl [R2]; · iexact R2
    iexact O
  iintro ⟨O, Z1, Z2, D⟩
  iapply Hk
  isplitl [O]; · iexact O
  isplitl [X0 X1 X2 X3]
  · isplitl [X0]; · iexact X0
    isplitl [X1]; · iexact X1
    isplitl [X2]; · iexact X2
    iexact X3
  isplitl [W0 W1 W2 W3]
  · isplitl [W0]; · iexact W0
    isplitl [W1]; · iexact W1
    isplitl [W2]; · iexact W2
    iexact W3
  isplitl [Z1]; · iexact Z1
  isplitl [Z2]; · iexact Z2
  iexact D

/-! ## The first products -/

theorem wp_wtX' (c : Dev nD) (k : Fin 4) (l : List Item) (hl : above 0 l) (Φ : PUnit → sProp 𝕄) :
    iprop(ctx m K I ∗ Wt c (.xc k) ∗ ow c l)
      ⊢ iprop(((ow c l ∗ xs m c k ∗ srcX m c k ∗ done c (.xc k)) -∗ Φ ⟨⟩) -∗ WP c (wtX c k) Φ) := by
  unfold Wt
  iintro ⟨#C, ⟨P, R⟩, O⟩ Hk
  iapply (wp_wtX m K I c k l hl _) $$ [P R O]
  · isplitr; · iexact C
    isplitl [P]; · iexact P
    isplitl [R] <;> iassumption
  iintro ⟨O, Y, D⟩
  ihave Y' := (show pay m c (.xc k) 0 ⊢ iprop(xs m c k ∗ srcX m c k) from .rfl) $$ Y
  icases Y' with ⟨Y, S⟩
  iapply Hk
  isplitl [O]; · iexact O
  isplitl [Y]; · iexact Y
  isplitl [S] <;> iassumption

theorem wp_wtW' (c : Dev nD) (k : Fin 4) (l : List Item) (hl : above 0 l) (Φ : PUnit → sProp 𝕄) :
    iprop(ctx m K I ∗ Wt c (.wc k) ∗ ow c l)
      ⊢ iprop(((ow c l ∗ wq m c k ∗ srcW m c k ∗ done c (.wc k)) -∗ Φ ⟨⟩) -∗ WP c (wtW k) Φ) := by
  unfold Wt
  iintro ⟨#C, ⟨P, R⟩, O⟩ Hk
  iapply (wp_wtW m K I c k l hl _) $$ [P R O]
  · isplitr; · iexact C
    isplitl [P]; · iexact P
    isplitl [R] <;> iassumption
  iintro ⟨O, Y, D⟩
  ihave Y' := (show pay m c (.wc k) 0 ⊢ iprop(wq m c k ∗ srcW m c k) from .rfl) $$ Y
  icases Y' with ⟨Y, S⟩
  iapply Hk
  isplitl [O]; · iexact O
  isplitl [Y]; · iexact Y
  isplitl [S] <;> iassumption

/-- The first product of a strip of one ring. -/
theorem wp_produce' (c : Dev nD) (d : Bool) (s : Fin 4) (k j : Fin 4) (hk : slotOf d 0 = k) (hj : jOf (qOf d s) = j) (Φ : PUnit → sProp 𝕄) :
    iprop(xs m c k ∗ wq m c j ∗ any c (cT d 0 s))
      ⊢ iprop((xs m c k ∗ wq m c j ∗ tile c (cT d 0 s) (acc m d s 0 c) -∗ Φ ⟨⟩) -∗ WP c (produce d s) Φ) := by
  subst hk; subst hj; exact wp_produce m c d s Φ

/-- The slots of strip `s` of both rings, from before the first hop. -/
def Land0 (c : Dev nD) (s : Fin 4) : sProp 𝕄 :=
  iprop(both (fun d => Hop c d 0 s) ∗ both (fun d => any (tow d c) (cT d 1 s)) ∗ both (fun d => extra (tow d c) d 0 s))

/-- The second product of a strip, and both on their way. -/
theorem wp_second (c : Dev nD) (s j : Fin 4) (hj : jOf (qOf false s) = j) (l : List Item) (Φ : PUnit → sProp 𝕄) :
    iprop(ctx m K I ∗ xs m c 1 ∗ wq m c j ∗ any c (cT false 0 s) ∗ tile c (cT true 0 s) (acc m true s 0 c) ∗ Land0 c s
        ∗ ow c (.rcv true 0 s :: .rcv false 0 s :: l))
      ⊢ iprop(((ow c l ∗ xs m c 1 ∗ wq m c j ∗ both (fun d => Fly c d 0 s)) -∗ Φ ⟨⟩)
        -∗ WP c (produce false s) fun _ => WP c (send true 0 s (nxt c)) fun _ => WP c (send false 0 s (prv c)) Φ) := by
  unfold Land0
  iintro ⟨#C, X, W, A, T, ⟨H, D, E⟩, O⟩ Hk
  iapply (wp_produce' m c false s 1 j rfl hj _) $$ [X W A]
  · isplitl [X]; · iexact X
    isplitl [W] <;> iassumption
  iintro ⟨X, W, A⟩
  iapply (wp_sends m K I c 0 s l _) $$ [H T A D E O]
  · isplitr; · iexact C
    isplitl [H]; · iexact H
    isplitl [T A]
    · unfold both
      isplitl [T]; · iexact T
      iexact A
    isplitl [D]; · iexact D
    isplitl [E]; · iexact E
    iexact O
  iintro ⟨O, F⟩
  iapply Hk
  isplitl [O]; · iexact O
  isplitl [X]; · iexact X
  isplitl [W] <;> iassumption

theorem wp_firsts (c : Dev nD) (Φ : PUnit → sProp 𝕄) :
    iprop(ctx m K I ∗ all4 (fun k => Wt c (.wc k)) ∗ Wt c (.xc 0) ∗ Wt c (.xc 1) ∗ all4 (fun s => both (fun d => any c (cT d 0 s)))
        ∗ all4 (Land0 c) ∗ ow c owed0)
      ⊢ iprop(((ow c owed1 ∗ (xs m c 0 ∗ xs m c 1) ∗ all4 (wq m c) ∗ srcX m c 0 ∗ srcX m c 1 ∗ all4 (srcW m c)
          ∗ all4 (fun s => both (fun d => Fly c d 0 s)) ∗ done c (.xc 0) ∗ done c (.xc 1) ∗ all4 (fun k => done c (.wc k))) -∗ Φ ⟨⟩)
        -∗ WP c (firsts c (nxt c) (prv c)) Φ) := by
  have a0 : above 0 owed0 := by decide
  unfold firsts
  simp only [WP_bind]
  unfold all4
  iintro ⟨#C, ⟨W0, W1, W2, W3⟩, V0, V1, ⟨A0, A1, A2, A3⟩, ⟨L0, L1, L2, L3⟩, O⟩ Hk
  ihave A0 := (show both (fun d => any c (cT d 0 0)) ⊢ (iprop(any c (cT true 0 0) ∗ any c (cT false 0 0)) : sProp 𝕄) from .rfl) $$ A0
  icases A0 with ⟨T0, F0⟩
  ihave A1 := (show both (fun d => any c (cT d 0 1)) ⊢ (iprop(any c (cT true 0 1) ∗ any c (cT false 0 1)) : sProp 𝕄) from .rfl) $$ A1
  icases A1 with ⟨T1, F1⟩
  ihave A2 := (show both (fun d => any c (cT d 0 2)) ⊢ (iprop(any c (cT true 0 2) ∗ any c (cT false 0 2)) : sProp 𝕄) from .rfl) $$ A2
  icases A2 with ⟨T2, F2⟩
  ihave A3 := (show both (fun d => any c (cT d 0 3)) ⊢ (iprop(any c (cT true 0 3) ∗ any c (cT false 0 3)) : sProp 𝕄) from .rfl) $$ A3
  icases A3 with ⟨T3, F3⟩
  iapply (wp_wtW' m K I c 0 _ a0 _) $$ [W0 O]
  · isplitr; · iexact C
    isplitl [W0] <;> iassumption
  iintro ⟨O, W0, S0, D0⟩
  iapply (wp_wtX' m K I c 0 _ a0 _) $$ [V0 O]
  · isplitr; · iexact C
    isplitl [V0] <;> iassumption
  iintro ⟨O, X0, U0, E0⟩
  iapply (wp_produce' m c true 0 0 0 rfl rfl _) $$ [X0 W0 T0]
  · isplitl [X0]; · iexact X0
    isplitl [W0] <;> iassumption
  iintro ⟨X0, W0, T0⟩
  iapply (wp_wtW' m K I c 2 _ a0 _) $$ [W2 O]
  · isplitr; · iexact C
    isplitl [W2] <;> iassumption
  iintro ⟨O, W2, S2, D2⟩
  iapply (wp_wtX' m K I c 1 _ a0 _) $$ [V1 O]
  · isplitr; · iexact C
    isplitl [V1] <;> iassumption
  iintro ⟨O, X1, U1, E1⟩
  iapply (wp_second m K I c 0 2 rfl _ _) $$ [X1 W2 F0 T0 L0 O]
  · isplitr; · iexact C
    isplitl [X1]; · iexact X1
    isplitl [W2]; · iexact W2
    isplitl [F0]; · iexact F0
    isplitl [T0]; · iexact T0
    isplitl [L0] <;> iassumption
  iintro ⟨O, X1, W2, G0⟩
  iapply (wp_produce' m c true 1 0 0 rfl rfl _) $$ [X0 W0 T1]
  · isplitl [X0]; · iexact X0
    isplitl [W0] <;> iassumption
  iintro ⟨X0, W0, T1⟩
  iapply (wp_second m K I c 1 2 rfl _ _) $$ [X1 W2 F1 T1 L1 O]
  · isplitr; · iexact C
    isplitl [X1]; · iexact X1
    isplitl [W2]; · iexact W2
    isplitl [F1]; · iexact F1
    isplitl [T1]; · iexact T1
    isplitl [L1] <;> iassumption
  iintro ⟨O, X1, W2, G1⟩
  have a2 : above 0 (.rcv true 0 2 :: .rcv false 0 2 :: .rcv true 0 3 :: .rcv false 0 3 :: owed1) := by decide
  iapply (wp_wtW' m K I c 1 _ a2 _) $$ [W1 O]
  · isplitr; · iexact C
    isplitl [W1] <;> iassumption
  iintro ⟨O, W1, S1, D1⟩
  iapply (wp_produce' m c true 2 0 1 rfl rfl _) $$ [X0 W1 T2]
  · isplitl [X0]; · iexact X0
    isplitl [W1] <;> iassumption
  iintro ⟨X0, W1, T2⟩
  iapply (wp_wtW' m K I c 3 _ a2 _) $$ [W3 O]
  · isplitr; · iexact C
    isplitl [W3] <;> iassumption
  iintro ⟨O, W3, S3, D3⟩
  iapply (wp_second m K I c 2 3 rfl _ _) $$ [X1 W3 F2 T2 L2 O]
  · isplitr; · iexact C
    isplitl [X1]; · iexact X1
    isplitl [W3]; · iexact W3
    isplitl [F2]; · iexact F2
    isplitl [T2]; · iexact T2
    isplitl [L2] <;> iassumption
  iintro ⟨O, X1, W3, G2⟩
  iapply (wp_produce' m c true 3 0 1 rfl rfl _) $$ [X0 W1 T3]
  · isplitl [X0]; · iexact X0
    isplitl [W1] <;> iassumption
  iintro ⟨X0, W1, T3⟩
  iapply (wp_second m K I c 3 3 rfl _ _) $$ [X1 W3 F3 T3 L3 O]
  · isplitr; · iexact C
    isplitl [X1]; · iexact X1
    isplitl [W3]; · iexact W3
    isplitl [F3]; · iexact F3
    isplitl [T3]; · iexact T3
    isplitl [L3] <;> iassumption
  iintro ⟨O, X1, W3, G3⟩
  iapply Hk
  isplitl [O]; · iexact O
  isplitl [X0 X1]
  · isplitl [X0] <;> iassumption
  isplitl [W0 W1 W2 W3]
  · isplitl [W0]; · iexact W0
    isplitl [W1]; · iexact W1
    isplitl [W2] <;> iassumption
  isplitl [U0]; · iexact U0
  isplitl [U1]; · iexact U1
  isplitl [S0 S1 S2 S3]
  · isplitl [S0]; · iexact S0
    isplitl [S1]; · iexact S1
    isplitl [S2] <;> iassumption
  isplitl [G0 G1 G2 G3]
  · isplitl [G0]; · iexact G0
    isplitl [G1]; · iexact G1
    isplitl [G2]; · iexact G2
    iexact G3
  isplitl [E0]; · iexact E0
  isplitl [E1]; · iexact E1
  isplitl [D0]; · iexact D0
  isplitl [D1]; · iexact D1
  isplitl [D2]; · iexact D2
  iexact D3

/-! ## The hops -/

theorem wp_hop0 (c : Dev nD) (Φ : PUnit → sProp 𝕄) :
    iprop(ctx m K I ∗ Wt c (.xc 2) ∗ all4 (wq m c) ∗ all4 (Pre0 c) ∗ Cr c 0 ∗ ow c owed1)
      ⊢ iprop(((ow c owed2 ∗ all4 (wq m c) ∗ xs m c 2 ∗ srcX m c 2 ∗ done c (.xc 2) ∗ all4 (Post0 c) ∗ Cr c 4) -∗ Φ ⟨⟩)
        -∗ WP c (hop0 c (nxt c) (prv c)) Φ) := by
  have a1 : above 0 owed1 := by decide
  unfold hop0
  simp only [WP_bind]
  iintro ⟨#C, V, W, L, R, O⟩ Hk
  iapply (wp_wtX' m K I c 2 _ a1 _) $$ [V O]
  · isplitr; · iexact C
    isplitl [V] <;> iassumption
  iintro ⟨O, X, U, E⟩
  iapply (wp_parts m c 2 2 (xs m c 2) (by iintro H; isplitl [H]; · iexact H
                                          iintro H; iexact H)
    (by iintro H; isplitl [H]; · iexact H
        iintro H; iexact H) _) $$ [X W]
  · isplitl [X] <;> iassumption
  iintro ⟨X, W⟩
  unfold all4
  icases L with ⟨L0, L1, L2, L3⟩
  iapply (wp_mid0 m K I c 0 0 rfl owed1_1 (by decide) _) $$ [L0 R O]
  · isplitr; · iexact C
    isplitl [L0]; · iexact L0
    isplitl [R] <;> iassumption
  iintro ⟨O, R, L0⟩
  iapply (wp_mid0 m K I c 1 1 rfl owed1_2 (by decide) _) $$ [L1 R O]
  · isplitr; · iexact C
    isplitl [L1]; · iexact L1
    isplitl [R] <;> iassumption
  iintro ⟨O, R, L1⟩
  iapply (wp_mid0 m K I c 2 2 rfl owed1_3 (by decide) _) $$ [L2 R O]
  · isplitr; · iexact C
    isplitl [L2]; · iexact L2
    isplitl [R] <;> iassumption
  iintro ⟨O, R, L2⟩
  iapply (wp_mid0 m K I c 3 3 rfl owed2 (by decide) _) $$ [L3 R O]
  · isplitr; · iexact C
    isplitl [L3]; · iexact L3
    isplitl [R] <;> iassumption
  iintro ⟨O, R, L3⟩
  iapply Hk
  isplitl [O]; · iexact O
  isplitl [W]; · iexact W
  isplitl [X]; · iexact X
  isplitl [U]; · iexact U
  isplitl [E]; · iexact E
  isplitr [R]
  · isplitl [L0]; · iexact L0
    isplitl [L1]; · iexact L1
    isplitl [L2] <;> iassumption
  iexact R

theorem wp_hop1 (c : Dev nD) (Φ : PUnit → sProp 𝕄) :
    iprop(ctx m K I ∗ (xs m c 0 ∗ xs m c 1) ∗ all4 (wq m c) ∗ all4 (Pre1 c) ∗ ow c owed2)
      ⊢ iprop(((ow c owedA ∗ (xs m c 0 ∗ xs m c 1) ∗ all4 (wq m c) ∗ all4 (Post1 c)) -∗ Φ ⟨⟩)
        -∗ WP c (hop1 (nxt c) (prv c)) Φ) := by
  unfold hop1
  simp only [WP_bind]
  iintro ⟨#C, X, W, L, O⟩ Hk
  iapply (wp_parts m c 1 0 iprop(xs m c 0 ∗ xs m c 1)
    (by iintro ⟨A, B⟩; isplitl [B]; · iexact B
        iintro B; isplitl [A] <;> iassumption)
    (by iintro ⟨A, B⟩; isplitl [A]; · iexact A
        iintro A; isplitl [A] <;> iassumption) _) $$ [X W]
  · isplitl [X] <;> iassumption
  iintro ⟨X, W⟩
  unfold all4
  icases L with ⟨L0, L1, L2, L3⟩
  iapply (wp_mid1 m K I c 0 owed2_1 (by decide) _) $$ [L0 O]
  · isplitr; · iexact C
    isplitl [L0] <;> iassumption
  iintro ⟨O, L0⟩
  iapply (wp_mid1 m K I c 1 owed2_2 (by decide) _) $$ [L1 O]
  · isplitr; · iexact C
    isplitl [L1] <;> iassumption
  iintro ⟨O, L1⟩
  iapply (wp_mid1 m K I c 2 owed2_3 (by decide) _) $$ [L2 O]
  · isplitr; · iexact C
    isplitl [L2] <;> iassumption
  iintro ⟨O, L2⟩
  iapply (wp_mid1 m K I c 3 owedA (by decide) _) $$ [L3 O]
  · isplitr; · iexact C
    isplitl [L3] <;> iassumption
  iintro ⟨O, L3⟩
  iapply Hk
  isplitl [O]; · iexact O
  isplitl [X]; · iexact X
  isplitl [W]; · iexact W
  isplitl [L0]; · iexact L0
  isplitl [L1]; · iexact L1
  isplitl [L2] <;> iassumption

theorem wp_hop2 (c : Dev nD) (Φ : F .f32 → sProp 𝕄) :
    iprop(ctx m K I ∗ Wt c (.xc 3) ∗ all4 (wq m c) ∗ all4 (fun s => both (fun d => Fly c d 2 s)) ∗ ow c owedA)
      ⊢ iprop(((ow c owedA ∗ all4 (wq m c) ∗ xs m c 3 ∗ srcX m c 3 ∗ done c (.xc 3) ∗ all4 (Post2 m c)) -∗ Φ (amxLoc m c))
        -∗ WP c (hop2 c) Φ) := by
  unfold hop2
  simp only [WP_bind]
  rw [show amxLoc m c = amxStep (amxStep (amxStep (amxStep zero32 (acc m true 0 3 c, acc m false 0 3 c))
    (acc m true 1 3 c, acc m false 1 3 c)) (acc m true 2 3 c, acc m false 2 3 c)) (acc m true 3 3 c, acc m false 3 3 c) from rfl]
  iintro ⟨#C, V, W, L, O⟩ Hk
  iapply (wp_wtX' m K I c 3 owedA (by decide) _) $$ [V O]
  · isplitr; · iexact C
    isplitl [V] <;> iassumption
  iintro ⟨O, X, U, E⟩
  iapply (wp_parts m c 3 3 (xs m c 3) (by iintro H; isplitl [H]; · iexact H
                                          iintro H; iexact H)
    (by iintro H; isplitl [H]; · iexact H
        iintro H; iexact H) _) $$ [X W]
  · isplitl [X] <;> iassumption
  iintro ⟨X, W⟩
  unfold all4
  icases L with ⟨L0, L1, L2, L3⟩
  iapply (wp_last m K I c 0 _ owedA (by decide) _) $$ [L0 O]
  · isplitr; · iexact C
    isplitl [L0] <;> iassumption
  iintro ⟨O, L0⟩
  iapply (wp_last m K I c 1 _ owedA (by decide) _) $$ [L1 O]
  · isplitr; · iexact C
    isplitl [L1] <;> iassumption
  iintro ⟨O, L1⟩
  iapply (wp_last m K I c 2 _ owedA (by decide) _) $$ [L2 O]
  · isplitr; · iexact C
    isplitl [L2] <;> iassumption
  iintro ⟨O, L2⟩
  iapply (wp_last m K I c 3 _ owedA (by decide) _) $$ [L3 O]
  · isplitr; · iexact C
    isplitl [L3] <;> iassumption
  iintro ⟨O, L3⟩
  iapply Hk
  isplitl [O]; · iexact O
  isplitl [W]; · iexact W
  isplitl [X]; · iexact X
  isplitl [U]; · iexact U
  isplitl [E]; · iexact E
  isplitl [L0]; · iexact L0
  isplitl [L1]; · iexact L1
  isplitl [L2] <;> iassumption

end Cert.KernelIdeal.Body

end
-- ==== Proof.Finish.lean ====
/-
  The end of the body: what the barrier brings, the exchange of the maxima, the quantisation and the copies out.
-/
module

public import proofs.«01_k».proof.Proof.Stages

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CellK → ℕ) (I : Key → ℕ)

/-! ## What the barrier brings -/

theorem all4_eq (P : Fin 4 → sProp 𝕄) : bigSep Finset.univ P = all4 P :=
  bigSep_univ_eq_bigSepL [0, 1, 2, 3] (by decide) (by decide) P
theorem both_eq (P : Bool → sProp 𝕄) : bigSep Finset.univ P = both P :=
  bigSep_univ_eq_bigSepL [true, false] (by decide) (by decide) P
theorem all4_sep (P Q : Fin 4 → sProp 𝕄) : all4 (fun s => iprop(P s ∗ Q s)) = iprop(all4 P ∗ all4 Q) := by
  rw [← all4_eq, ← all4_eq, ← all4_eq]; exact bigSep_sep' _ _ _
theorem both_sep (P Q : Bool → sProp 𝕄) : both (fun s => iprop(P s ∗ Q s)) = iprop(both P ∗ both Q) := by
  rw [← both_eq, ← both_eq, ← both_eq]; exact bigSep_sep' _ _ _
theorem all4_both (P : Bool → Fin 4 → sProp 𝕄) : both (fun d => all4 (P d)) = all4 (fun s => both (fun d => P d s)) := by
  have h := BI.bigSep_univ_comm P
  simp only [all4_eq, both_eq] at h
  exact h
theorem all4_mono {P Q : Fin 4 → sProp 𝕄} (h : ∀ s, P s ⊢ Q s) : all4 P ⊢ all4 Q := by
  rw [← all4_eq, ← all4_eq]; exact BI.bigSep_mono fun s _ => h s
theorem both_mono {P Q : Bool → sProp 𝕄} (h : ∀ s, P s ⊢ Q s) : both P ⊢ both Q := by
  rw [← both_eq, ← both_eq]; exact BI.bigSep_mono fun s _ => h s

/-- The slots a device may write on its neighbours. -/
def Far (c : Dev nD) : sProp 𝕄 :=
  iprop(all4 (fun s => both (fun d => any (tow d c) (cT d 1 s))) ∗ all4 (fun s => both (fun d => any (tow d c) (yT (qOf d s))))
    ∗ any (nxt c) (aT 1) ∗ any (prv c) (aT 2) ∗ any (nxt c) (aT 3))

theorem bar_open (c : Dev nD) : iprop(payBar (nxt c) true ∗ payBar (prv c) false) ⊢ (Far c : sProp 𝕄) := by
  unfold payBar Far
  rw [if_pos rfl, if_neg Bool.false_ne_true, all4_eq, all4_eq, all4_sep, all4_sep, ← all4_both, ← all4_both]
  iintro ⟨⟨⟨A, B⟩, C, D⟩, ⟨⟨A', B'⟩, C', -⟩⟩
  isplitl [A A']
  · unfold both
    isplitl [A]; · iexact A
    iexact A'
  isplitl [B B']
  · unfold both
    isplitl [B]; · iexact B
    iexact B'
  isplitl [C]; · iexact C
  isplitl [C']; · iexact C'
  iexact D

/-- What device `c` grants its neighbours. -/
theorem bar_close (c : Dev nD) : iprop(all4 (fun s => both (fun d => any c (cT d 1 s))) ∗ all4 (fun s => both (fun d => any c (yT (qOf d s))))
    ∗ any c (aT 1) ∗ any c (aT 2) ∗ any c (aT 3)) ⊢ (both (payBar c) : sProp 𝕄) := by
  rw [← all4_both, ← all4_both]
  unfold both payBar
  rw [if_pos rfl, if_neg Bool.false_ne_true, all4_eq, all4_eq, all4_sep, all4_sep]
  iintro ⟨⟨A, A'⟩, ⟨B, B'⟩, C, C', D⟩
  isplitl [A B C D]
  · isplitl [A B]
    · isplitl [A] <;> iassumption
    isplitl [C]; · iexact C
    iexact D
  isplitl [A' B']
  · isplitl [A'] <;> iassumption
  isplitl [C']; · iexact C'
  iempintro

theorem dia_prv (c : Dev nD) : dia (tow false c) = nxt c := by revert c; decide

/-- The extras of the first hop's strips: the slot for the device opposite, and nothing. -/
theorem extras (c : Dev nD) : any (nxt c) (aT 3) ⊢ (all4 (fun s => both (fun d => extra (tow d c) d 0 s)) : sProp 𝕄) := by
  have h0 : any (nxt c) (aT 3) ⊢ (extra (tow false c) false 0 0 : sProp 𝕄) := by
    unfold extra; rw [if_pos ⟨rfl, rfl, rfl⟩, dia_prv]
  have hn (d : Bool) (s : Fin 4) (h : ¬(d = false ∧ (0 : Fin 3) = 0 ∧ s = 0)) : (emp : sProp 𝕄) ⊢ extra (tow d c) d 0 s := extra_emp _ _ _ _ h
  unfold all4 both
  iintro H
  isplitl [H]
  · isplitr; · iapply (hn true 0 (by decide)); iempintro
    iapply h0; iexact H
  isplitr
  · isplitr
    · iapply (hn true 1 (by decide)); iempintro
    iapply (hn false 1 (by decide)); iempintro
  isplitr
  · isplitr
    · iapply (hn true 2 (by decide)); iempintro
    iapply (hn false 2 (by decide)); iempintro
  isplitr
  · iapply (hn true 3 (by decide)); iempintro
  iapply (hn false 3 (by decide)); iempintro

theorem extra_open (c : Dev nD) : (extra c false 0 0 : sProp 𝕄) ⊢ any (dia c) (aT 3) := by
  unfold extra; rw [if_pos ⟨rfl, rfl, rfl⟩]

/-! ## The exchange of the maxima -/

def DoneA (c : Dev nD) (j : Fin 3) : sProp 𝕄 := iprop(done c (.sndA j) ∗ done c (.rcvA j))

/-- Slot 0 of the maxima, in the three shares its transfers read, and whole. -/
theorem amx_split (c : Dev nD) : tile c (aT 0) (amxV m c)
    ⊢ (iprop(owns (c : Thread nD τ) (aT 0) (shA 0) (amxV m c) ∗ owns (c : Thread nD τ) (aT 0) (shA 1) (amxV m c)
      ∗ owns (c : Thread nD τ) (aT 0) (shA 2) (amxV m c)) : sProp 𝕄) := by
  iintro H
  ihave H := (owns_split c (aT 0) (PosShare.mem_left_op_right fullShare) (amxV m c)) $$ H
  icases H with ⟨A, H⟩
  ihave H := (owns_split c (aT 0) (PosShare.mem_left_op_right fullShare.right) (amxV m c)) $$ H
  icases H with ⟨B, C⟩
  isplitl [A]; · iexact A
  isplitl [B]; · iexact B
  iexact C
theorem amx_join (c : Dev nD) : iprop(owns (c : Thread nD τ) (aT 0) (shA 0) (amxV m c) ∗ owns (c : Thread nD τ) (aT 0) (shA 1) (amxV m c)
      ∗ owns (c : Thread nD τ) (aT 0) (shA 2) (amxV m c)) ⊢ (tile c (aT 0) (amxV m c) : sProp 𝕄) := by
  iintro ⟨A, B, C⟩
  iapply (owns_join c (aT 0) (PosShare.mem_left_op_right fullShare) (amxV m c))
  isplitl [A]; · iexact A
  iapply (owns_join c (aT 0) (PosShare.mem_left_op_right fullShare.right) (amxV m c))
  isplitl [B]; · iexact B
  iexact C

/-- The two waits of one transfer of the maxima. -/
theorem wp_wtA (c t : Dev nD) (j : Fin 3) (j' : Fin 4) (hj : j.succ = j') (ht : aFrom j c = t) (Φ : PUnit → sProp 𝕄) :
    iprop(ctx m K I ∗ posn c (.sndA j) ∗ posn c (.rcvA j) ∗ crdt c (.sndA j) 0 ∗ crdt c (.rcvA j) 0 ∗ ow c [])
      ⊢ iprop(((ow c [] ∗ owns (c : Thread nD τ) (aT 0) (shA j) (amxV m c) ∗ tile c (aT j') (amxV m t) ∗ DoneA c j) -∗ Φ ⟨⟩)
        -∗ WP c (wtSA j) fun _ => WP c (wtRA j) Φ) := by
  subst hj; subst ht
  unfold DoneA
  iintro ⟨#C, P, Q, R, S, O⟩ Hk
  iapply (wp_wtSA m K I c j [] (above_nil _) _) $$ [P R O]
  · isplitr; · iexact C
    isplitl [P]; · iexact P
    isplitl [R] <;> iassumption
  iintro ⟨O, Y, D⟩
  iapply (wp_wtRA m K I c j [] (above_nil _) _) $$ [Q S O]
  · isplitr; · iexact C
    isplitl [Q]; · iexact Q
    isplitl [S] <;> iassumption
  iintro ⟨O, Z, E⟩
  ihave Y := (show pay m c (.sndA j) 0 ⊢ owns (c : Thread nD τ) (aT 0) (shA j) (amxV m c) from .rfl) $$ Y
  ihave Z := (show pay m c (.rcvA j) 0 ⊢ tile c (aT j.succ) (amxV m (aFrom j c)) from .rfl) $$ Z
  iapply Hk
  isplitl [O]; · iexact O
  isplitl [Y]; · iexact Y
  isplitl [Z]; · iexact Z
  isplitl [D] <;> iassumption

/-- A load of slot `j` of the maxima. -/
theorem wp_ldA' (c d : Dev nD) (j : Fin 4) (Φ : F .f32 → sProp 𝕄) :
    tile c (aT j) (amxV m d) ⊢ iprop((tile c (aT j) (amxV m d) -∗ Φ (amxLoc m d)) -∗ WP c (ldA j) Φ) :=
  wp_ldA c j fullShare (amxLoc m d) Φ

theorem wp_maxima (c : Dev nD) (Φ : F .f32 → sProp 𝕄) :
    iprop(ctx m K I ∗ any c (aT 0) ∗ any (nxt c) (aT 1) ∗ any (prv c) (aT 2) ∗ any (dia c) (aT 3) ∗ Amx c 0 ∗ Amx c 1 ∗ Amx c 2 ∗ ow c owedA)
      ⊢ iprop(((ow c [] ∗ all4 (fun j => any c (aT j)) ∗ DoneA c 0 ∗ DoneA c 1 ∗ DoneA c 2) -∗ Φ (scale m c))
        -∗ WP c (maxima (nxt c) (prv c) (dia c) (amxLoc m c)) Φ) := by
  unfold maxima scale
  simp only [WP_bind, WP_pure]
  unfold Amx
  iintro ⟨#C, A, B1, B2, B3, ⟨P0, Q0, T0, U0, R0⟩, ⟨P1, Q1, T1, U1, R1⟩, ⟨P2, Q2, T2, U2, R2⟩, O⟩ Hk
  iapply (wp_stA c (amxLoc m c) _) $$ A
  iintro A
  ihave A := (show tile c (aT 0) (broadcast S8x128 (amxLoc m c)) ⊢ _ from amx_split m c) $$ A
  icases A with ⟨A0, A1, A2⟩
  iapply (wp_sendA m K I c (nxt c) 0 rfl [.amx 1, .amx 2] _) $$ [T0 U0 A0 B1 O]
  · isplitr; · iexact C
    isplitl [T0]; · iexact T0
    isplitl [U0]; · iexact U0
    isplitl [A0]; · iexact A0
    isplitl [B1]; · iexact B1
    iexact O
  iintro ⟨O, S0⟩
  iapply (wp_sendA m K I c (prv c) 1 rfl [.amx 2] _) $$ [T1 U1 A1 B2 O]
  · isplitr; · iexact C
    isplitl [T1]; · iexact T1
    isplitl [U1]; · iexact U1
    isplitl [A1]; · iexact A1
    isplitl [B2]; · iexact B2
    iexact O
  iintro ⟨O, S1⟩
  iapply (wp_sendA m K I c (dia c) 2 rfl [] _) $$ [T2 U2 A2 B3 O]
  · isplitr; · iexact C
    isplitl [T2]; · iexact T2
    isplitl [U2]; · iexact U2
    isplitl [A2]; · iexact A2
    isplitl [B3]; · iexact B3
    iexact O
  iintro ⟨O, S2⟩
  iapply (wp_wtA m K I c (prv c) 0 1 rfl rfl _) $$ [P0 Q0 S0 R0 O]
  · isplitr; · iexact C
    isplitl [P0]; · iexact P0
    isplitl [Q0]; · iexact Q0
    isplitl [S0]; · iexact S0
    isplitl [R0] <;> iassumption
  iintro ⟨O, A0, B1, D0⟩
  iapply (wp_wtA m K I c (nxt c) 1 2 rfl rfl _) $$ [P1 Q1 S1 R1 O]
  · isplitr; · iexact C
    isplitl [P1]; · iexact P1
    isplitl [Q1]; · iexact Q1
    isplitl [S1]; · iexact S1
    isplitl [R1] <;> iassumption
  iintro ⟨O, A1, B2, D1⟩
  iapply (wp_wtA m K I c (dia c) 2 3 rfl rfl _) $$ [P2 Q2 S2 R2 O]
  · isplitr; · iexact C
    isplitl [P2]; · iexact P2
    isplitl [Q2]; · iexact Q2
    isplitl [S2]; · iexact S2
    isplitl [R2] <;> iassumption
  iintro ⟨O, A2, B3, D2⟩
  ihave A := (amx_join m c) $$ [A0 A1 A2]
  · isplitl [A0]; · iexact A0
    isplitl [A1] <;> iassumption
  iapply (wp_ldA' m c c 0 _) $$ A
  iintro A
  iapply (wp_ldA' m c (prv c) 1 _) $$ B1
  iintro B1
  iapply (wp_ldA' m c (nxt c) 2 _) $$ B2
  iintro B2
  iapply (wp_ldA' m c (dia c) 3 _) $$ B3
  iintro B3
  imodintro
  iapply Hk
  isplitl [O]; · iexact O
  isplitl [A B1 B2 B3]
  · unfold all4
    isplitl [A]; · iapply (tile_any c (aT 0) _); iexact A
    isplitl [B1]; · iapply (tile_any c (aT 1) _); iexact B1
    isplitl [B2]; · iapply (tile_any c (aT 2) _); iexact B2
    iapply (tile_any c (aT 3) _); iexact B3
  isplitl [D0]; · iexact D0
  isplitl [D1] <;> iassumption

/-! ## The result -/

/-- A quarter of the result before it is quantised and copied out, and after. -/
def Out0 (c : Dev nD) (j : Fin 4) : sProp 𝕄 := iprop(posn c (.oc j) ∗ tok c (.oc j) 0 ∗ tile c (yH j) (yQuarter m c j) ∗ any c (oT j))
def Out1 (c : Dev nD) (j : Fin 4) : sProp 𝕄 :=
  iprop(tile c (oT j) (quant (scale m c) (yQuarter m c j)) ∗ any c (yH j) ∗ done c (.oc j))

theorem wp_out' (c : Dev nD) (j : Fin 4) (Φ : PUnit → sProp 𝕄) :
    iprop(ctx m K I ∗ Out0 m c j) ⊢ iprop((Wt c (.oc j) -∗ Φ ⟨⟩) -∗ WP c (out (scale m c) j) Φ) := by
  unfold Out0 Wt
  iintro ⟨#C, P, T, Y, Z⟩ Hk
  iapply (wp_out m K I c j _) $$ [T Y Z]
  · isplitr; · iexact C
    isplitl [T]; · iexact T
    isplitl [Y] <;> iassumption
  iintro R
  iapply Hk
  isplitl [P] <;> iassumption
theorem wp_wtO' (c : Dev nD) (j : Fin 4) (Φ : PUnit → sProp 𝕄) :
    iprop(ctx m K I ∗ Wt c (.oc j) ∗ ow c []) ⊢ iprop((ow c [] ∗ Out1 m c j -∗ Φ ⟨⟩) -∗ WP c (wtO j) Φ) := by
  unfold Out1 Wt
  iintro ⟨#C, ⟨P, R⟩, O⟩ Hk
  iapply (wp_wtO m K I c j [] (above_nil _) _) $$ [P R O]
  · isplitr; · iexact C
    isplitl [P]; · iexact P
    isplitl [R] <;> iassumption
  iintro ⟨O, Y, D⟩
  ihave Y := (show pay m c (.oc j) 0 ⊢ iprop(tile c (oT j) (quant (scale m c) (yQuarter m c j)) ∗ any c (yH j)) from .rfl) $$ Y
  icases Y with ⟨Y, Z⟩
  iapply Hk
  isplitl [O]; · iexact O
  isplitl [Y]; · iexact Y
  isplitl [Z] <;> iassumption

theorem wp_outs (c : Dev nD) (Φ : PUnit → sProp 𝕄) :
    iprop(ctx m K I ∗ all4 (Out0 m c) ∗ ow c []) ⊢ iprop((ow c [] ∗ all4 (Out1 m c) -∗ Φ ⟨⟩) -∗ WP c (outs (scale m c)) Φ) := by
  unfold outs
  simp only [WP_bind]
  unfold all4
  iintro ⟨#C, ⟨A0, A1, A2, A3⟩, O⟩ Hk
  iapply (wp_out' m K I c 0 _) $$ [A0]
  · isplitr; · iexact C
    iexact A0
  iintro A0
  iapply (wp_out' m K I c 1 _) $$ [A1]
  · isplitr; · iexact C
    iexact A1
  iintro A1
  iapply (wp_out' m K I c 2 _) $$ [A2]
  · isplitr; · iexact C
    iexact A2
  iintro A2
  iapply (wp_out' m K I c 3 _) $$ [A3]
  · isplitr; · iexact C
    iexact A3
  iintro A3
  iapply (wp_wtO' m K I c 0 _) $$ [A0 O]
  · isplitr; · iexact C
    isplitl [A0] <;> iassumption
  iintro ⟨O, A0⟩
  iapply (wp_wtO' m K I c 1 _) $$ [A1 O]
  · isplitr; · iexact C
    isplitl [A1] <;> iassumption
  iintro ⟨O, A1⟩
  iapply (wp_wtO' m K I c 2 _) $$ [A2 O]
  · isplitr; · iexact C
    isplitl [A2] <;> iassumption
  iintro ⟨O, A2⟩
  iapply (wp_wtO' m K I c 3 _) $$ [A3 O]
  · isplitr; · iexact C
    isplitl [A3] <;> iassumption
  iintro ⟨O, A3⟩
  iapply Hk
  isplitl [O]; · iexact O
  isplitl [A0]; · iexact A0
  isplitl [A1]; · iexact A1
  isplitl [A2] <;> iassumption

end Cert.KernelIdeal.Body

end
-- ==== Proof.Geometry.lean ====
/-
  The buffers split into the tiles the body works with, and put together again; the values of the whole from those of the tiles.
-/
module

public import proofs.«01_k».proof.Proof.Finish

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CellK → ℕ) (I : Key → ℕ)

/-! ## Buffers held at any contents, by tiles -/

theorem slots_join {T : Type} [DecidableEq T] (ℓ : Loc nD τ sig) (Kf : T → Finset (Idx ℓ)) (S : Finset T)
    (hd : ∀ t ∈ S, ∀ t' ∈ S, t ≠ t' → Disjoint (Kf t) (Kf t')) :
    bigSep S (fun t => slot ℓ (Kf t)) ⊢ (slot ℓ (S.biUnion Kf) : sProp 𝕄) := by
  classical
  induction S using Finset.induction_on with
  | empty =>
    rw [Finset.biUnion_empty]
    unfold slot
    iintro -
    iexists (fun _ => Classical.choice (inferInstance : Nonempty (Elt F _)))
    rw [pointsTo_empty]; iempintro
  | insert t S ht ih =>
    rw [Finset.biUnion_insert, bigSep_insert ht]
    have hD : Disjoint (Kf t) (S.biUnion Kf) := (Finset.disjoint_biUnion_right _ _ _).mpr fun t' h' =>
      hd t (Finset.mem_insert_self _ _) t' (Finset.mem_insert_of_mem h') fun e => ht (e ▸ h')
    refine (BIClass.sep_mono .rfl (ih fun a ha b hb => hd a (Finset.mem_insert_of_mem ha) b (Finset.mem_insert_of_mem hb))).trans ?_
    unfold slot
    iintro ⟨⟨%f, A⟩, ⟨%g, B⟩⟩
    iexists ((S.biUnion Kf).piecewise g f)
    iapply (pointsTo_join hD)
    isplitl [A] <;> iassumption

section Rects

variable (c : Dev nD) {sp : Space} {s : Shape} {e : EltTy} (M : Memref sig .tc sp s e) {T : Type} [Fintype T] [DecidableEq T]
  (r : T → Rect s) (hr : ∀ t a, (r t).stride a = 1) (hd : ∀ t t', t ≠ t' → Disjoint (r t).set (r t').set)
  (hcov : ∀ i : s.Idx, ∃ t, i ∈ (r t).set)
include hd hcov

omit [DecidableEq T] hd in
theorem cover : (Finset.univ : Finset T).biUnion (fun t => (r t).set) = Finset.univ :=
  Finset.eq_univ_iff_forall.mpr fun i => let ⟨t, h⟩ := hcov i; Finset.mem_biUnion.mpr ⟨t, Finset.mem_univ _, h⟩

omit [DecidableEq T] hd in
theorem set_rects : M.view.set = (Finset.univ : Finset T).biUnion fun t => (M.view.slice (r t)).set := by
  ext i; constructor
  · intro hi
    rw [View.set, Finset.mem_map] at hi
    obtain ⟨x, -, rfl⟩ := hi
    obtain ⟨t, hx⟩ := hcov x
    exact Finset.mem_biUnion.mpr ⟨t, Finset.mem_univ _, by rw [View.set_slice]; exact Finset.mem_map_of_mem _ hx⟩
  · intro hi
    obtain ⟨t, -, hi⟩ := Finset.mem_biUnion.mp hi
    exact View.set_slice_subset _ _ hi

omit [DecidableEq T] in
theorem any_split : any c M ⊢ (bigSep Finset.univ fun t => any c (M.slice (r t) (hr t)) : sProp 𝕄) := by
  refine (any_tile c M).trans ?_
  iintro ⟨%X, H⟩
  iapply ((owns_rects (c : Thread nD τ) M fullShare r hr hd (cover r hcov) X).trans
    (bigSep_mono fun t _ => tile_any c (M.slice (r t) (hr t)) _))
  iexact H

theorem any_join : (bigSep Finset.univ fun t => any c (M.slice (r t) (hr t)) : sProp 𝕄) ⊢ any c M := by
  refine (slots_join (M.view.loc (c : Thread nD τ)) (fun t => (M.view.slice (r t)).set) Finset.univ fun t _ t' _ h => ?_).trans ?_
  · rw [View.set_slice, View.set_slice]; exact (Finset.disjoint_map _).mpr (hd t t' h)
  · rw [← set_rects M r hcov]; exact .rfl

end Rects

theorem any_squeeze (c : Dev nD) {sp : Space} {s s' : Shape} {e : EltTy} (M : Memref sig .tc sp s e) (h : s.Squeezes s') :
    (any c (M.squeeze s' h) : sProp 𝕄) = any c M := by
  unfold any
  rw [show (M.squeeze s' h).view.set = M.view.set from View.set_reshape _ _]

/-! ## The tiles cover their buffers -/

theorem xRect_disj (t t' : Fin 4) (h : t ≠ t') : Disjoint (xRect t).set (xRect t').set :=
  Rect.unit_disjoint 0 (by have : t.val ≠ t'.val := fun e => h (Fin.ext e); show t.val + 1 ≤ t'.val ∨ t'.val + 1 ≤ t.val; omega)
theorem xRect_cov (i : S4x1024x1024.Idx) : ∃ t, i ∈ (xRect t).set :=
  ⟨⟨(i 0).val, (i 0).isLt⟩, Rect.mem_set_unit.mpr fun a => match a with
    | 0 => ⟨le_refl _, Nat.lt_succ_self _⟩
    | 1 => ⟨Nat.zero_le _, by have := (i 1).isLt; exact (Nat.zero_add 1024).symm ▸ this⟩
    | 2 => ⟨Nat.zero_le _, by have := (i 2).isLt; exact (Nat.zero_add 1024).symm ▸ this⟩⟩
theorem aRect_disj (t t' : Fin 4) (h : t ≠ t') : Disjoint (aRect t).set (aRect t').set :=
  Rect.unit_disjoint 0 (by have : t.val ≠ t'.val := fun e => h (Fin.ext e); show t.val + 1 ≤ t'.val ∨ t'.val + 1 ≤ t.val; omega)
theorem aRect_cov (i : S4x8x128.Idx) : ∃ t, i ∈ (aRect t).set :=
  ⟨⟨(i 0).val, (i 0).isLt⟩, Rect.mem_set_unit.mpr fun a => match a with
    | 0 => ⟨le_refl _, Nat.lt_succ_self _⟩
    | 1 => ⟨Nat.zero_le _, by have := (i 1).isLt; exact (Nat.zero_add 8).symm ▸ this⟩
    | 2 => ⟨Nat.zero_le _, by have := (i 2).isLt; exact (Nat.zero_add 128).symm ▸ this⟩⟩
theorem hRect_disj (t t' : Fin 4) (h : t ≠ t') : Disjoint (hRect t).set (hRect t').set :=
  Rect.unit_disjoint 1 (by
    have : t.val ≠ t'.val := fun e => h (Fin.ext e); show 512 * t.val + 512 ≤ 512 * t'.val ∨ 512 * t'.val + 512 ≤ 512 * t.val; omega)
theorem hRect_cov (i : S1024x2048.Idx) : ∃ t, i ∈ (hRect t).set := by
  have h : (i 1).val < 2048 := (i 1).isLt
  exact ⟨⟨(i 1).val / 512, by omega⟩, Rect.mem_set_unit.mpr fun a => match a with
    | 0 => ⟨Nat.zero_le _, by have := (i 0).isLt; exact (Nat.zero_add 1024).symm ▸ this⟩
    | 1 => by show 512 * ((i 1).val / 512) ≤ (i 1).val ∧ (i 1).val < 512 * ((i 1).val / 512) + 512; omega⟩
theorem qRect_disj (t t' : Fin 8) (h : t ≠ t') : Disjoint (qRect t).set (qRect t').set :=
  Rect.unit_disjoint 1 (by
    have : t.val ≠ t'.val := fun e => h (Fin.ext e); show 256 * t.val + 256 ≤ 256 * t'.val ∨ 256 * t'.val + 256 ≤ 256 * t.val; omega)
theorem qRect_at (i : S1024x2048.Idx) : i ∈ (qRect (qAt i)).set :=
  Rect.mem_set_unit.mpr fun a => match a with
    | 0 => ⟨Nat.zero_le _, by have := (i 0).isLt; exact (Nat.zero_add 1024).symm ▸ this⟩
    | 1 => by show 256 * ((i 1).val / 256) ≤ (i 1).val ∧ (i 1).val < 256 * ((i 1).val / 256) + 256; omega

theorem cRect_disj (t t' : Fin 2 × Fin 4) (h : t ≠ t') : Disjoint (cRect t.1 t.2).set (cRect t'.1 t'.2).set := by
  obtain ⟨b, s⟩ := t
  obtain ⟨b', s'⟩ := t'
  by_cases hb : b = b'
  · subst hb
    have : s.val ≠ s'.val := fun e => h (by rw [Fin.ext e])
    exact Rect.unit_disjoint 2 (by show 256 * s.val + 256 ≤ 256 * s'.val ∨ 256 * s'.val + 256 ≤ 256 * s.val; omega)
  · have : b.val ≠ b'.val := fun e => hb (Fin.ext e)
    exact Rect.unit_disjoint 0 (by show b.val + 1 ≤ b'.val ∨ b'.val + 1 ≤ b.val; omega)
theorem cRect_cov (i : S2x1024x1024.Idx) : ∃ t : Fin 2 × Fin 4, i ∈ (cRect t.1 t.2).set := by
  have h : (i 2).val < 1024 := (i 2).isLt
  exact ⟨(⟨(i 0).val, (i 0).isLt⟩, ⟨(i 2).val / 256, by omega⟩), Rect.mem_set_unit.mpr fun a => match a with
    | 0 => ⟨le_refl _, Nat.lt_succ_self _⟩
    | 1 => ⟨Nat.zero_le _, by have := (i 1).isLt; exact (Nat.zero_add 1024).symm ▸ this⟩
    | 2 => by show 256 * ((i 2).val / 256) ≤ (i 2).val ∧ (i 2).val < 256 * ((i 2).val / 256) + 256; omega⟩

/-- The strips of the result by strip and ring. -/
def ringStrip (t : Fin 4 × Bool) : Fin 8 := qOf t.2 t.1
theorem ringStrip_inj : Function.Injective ringStrip := by decide
theorem ringStrip_onto (q : Fin 8) : ∃ t, ringStrip t = q := by revert q; decide
theorem yRect_disj (t t' : Fin 4 × Bool) (h : t ≠ t') : Disjoint (qRect (ringStrip t)).set (qRect (ringStrip t')).set :=
  qRect_disj _ _ fun e => h (ringStrip_inj e)
theorem yRect_cov (i : S1024x2048.Idx) : ∃ t, i ∈ (qRect (ringStrip t)).set :=
  let ⟨t, h⟩ := ringStrip_onto (qAt i); ⟨t, h ▸ qRect_at i⟩

/-! ## The buffers, split and joined -/

theorem x_split (c : Dev nD) : any c xM ⊢ (all4 (fun k => any c (xT k)) : sProp 𝕄) := by
  rw [← all4_eq, bigSep_congr fun k _ => any_squeeze c (xM.slice (xRect k) (fun _ => rfl)) squeezes_S1x1024x1024_S1024x1024]
  exact any_split c xM xRect (fun _ _ => rfl) xRect_disj xRect_cov
theorem x_join (c : Dev nD) : all4 (fun k => any c (xT k)) ⊢ (any c xM : sProp 𝕄) := by
  rw [← all4_eq, bigSep_congr fun k _ => any_squeeze c (xM.slice (xRect k) (fun _ => rfl)) squeezes_S1x1024x1024_S1024x1024]
  exact any_join c xM xRect (fun _ _ => rfl) xRect_disj xRect_cov
theorem a_split (c : Dev nD) : any c aM ⊢ (all4 (fun k => any c (aT k)) : sProp 𝕄) := by
  rw [← all4_eq, bigSep_congr fun k _ => any_squeeze c (aM.slice (aRect k) (fun _ => rfl)) squeezes_S1x8x128_S8x128]
  exact any_split c aM aRect (fun _ _ => rfl) aRect_disj aRect_cov
theorem a_join (c : Dev nD) : all4 (fun k => any c (aT k)) ⊢ (any c aM : sProp 𝕄) := by
  rw [← all4_eq, bigSep_congr fun k _ => any_squeeze c (aM.slice (aRect k) (fun _ => rfl)) squeezes_S1x8x128_S8x128]
  exact any_join c aM aRect (fun _ _ => rfl) aRect_disj aRect_cov

/-- A ring's accumulators, both slots. -/
def Ring (c : Dev nD) (d : Bool) : sProp 𝕄 := iprop(all4 (fun s => any c (cT d 0 s)) ∗ all4 (fun s => any c (cT d 1 s)))
theorem ring_eq (c : Dev nD) (d : Bool) :
    (bigSep Finset.univ fun t : Fin 2 × Fin 4 => any c ((cM d).slice (cRect t.1 t.2) (fun _ => rfl)) : sProp 𝕄) = Ring c d := by
  unfold Ring
  rw [← all4_eq, ← all4_eq, bigSep_univ_prod, bigSep_univ_eq_bigSepL [0, 1] (by decide) (by decide)]
  show iprop(_ ∗ _) = _
  have h (b : Fin 2) : (bigSep Finset.univ fun s : Fin 4 => any c (cT d b s) : sProp 𝕄)
      = bigSep Finset.univ fun s : Fin 4 => any c ((cM d).slice (cRect b s) (fun _ => rfl)) :=
    bigSep_congr fun s _ => any_squeeze c ((cM d).slice (cRect b s) (fun _ => rfl)) squeezes_S1x1024x256_S1024x256
  rw [h, h]
  rfl
theorem c_split (c : Dev nD) (d : Bool) : any c (cM d) ⊢ (Ring c d : sProp 𝕄) := by
  rw [← ring_eq]
  exact any_split c (cM d) (fun t : Fin 2 × Fin 4 => cRect t.1 t.2) (fun _ _ => rfl) cRect_disj cRect_cov
theorem c_join (c : Dev nD) (d : Bool) : Ring c d ⊢ (any c (cM d) : sProp 𝕄) := by
  rw [← ring_eq]
  exact any_join c (cM d) (fun t : Fin 2 × Fin 4 => cRect t.1 t.2) (fun _ _ => rfl) cRect_disj cRect_cov

theorem strips_eq (P : Fin 8 → sProp 𝕄) : (bigSep Finset.univ fun t : Fin 4 × Bool => P (ringStrip t)) = all4 (fun s => both (fun d => P (qOf d s))) := by
  rw [← all4_eq, bigSep_univ_prod]
  exact bigSep_congr fun s _ => both_eq _
theorem y_split (c : Dev nD) : any c yM ⊢ (all4 (fun s => both (fun d => any c (yT (qOf d s)))) : sProp 𝕄) := by
  rw [← strips_eq (fun q => any c (yT q))]
  exact any_split c yM (fun t => qRect (ringStrip t)) (fun _ _ => rfl) yRect_disj yRect_cov
theorem yH_join (c : Dev nD) : all4 (fun j => any c (yH j)) ⊢ (any c yM : sProp 𝕄) := by
  rw [← all4_eq]
  exact any_join c yM hRect (fun _ _ => rfl) hRect_disj hRect_cov
theorem w_split (c : Dev nD) : any c wM ⊢ (all4 (fun j => any c (wH j)) : sProp 𝕄) := by
  rw [← all4_eq]
  exact any_split c wM hRect (fun _ _ => rfl) hRect_disj hRect_cov
theorem w_join (c : Dev nD) : all4 (fun j => any c (wH j)) ⊢ (any c wM : sProp 𝕄) := by
  rw [← all4_eq]
  exact any_join c wM hRect (fun _ _ => rfl) hRect_disj hRect_cov
theorem o_split (c : Dev nD) : any c oA ⊢ (all4 (fun j => any c (oT j)) : sProp 𝕄) := by
  rw [← all4_eq]
  exact any_split c oA hRect (fun _ _ => rfl) hRect_disj hRect_cov

/-! ## The values -/

/-- A strip of the result before it is quantised. -/
def yPiece (c : Dev nD) (q : Fin 8) : FVec F S1024x256 .f32 := fun j => yAll m c ((qRect q).emb j)

theorem yPiece_eq (c : Dev nD) (q : Fin 8) : yPiece m c q = yStrip m c q := by
  funext j
  have h0 : ((qRect q).emb j 1).val = 256 * q.val + 1 * (j 1).val := rfl
  have h1 : (j 1).val < 256 := (j 1).isLt
  have hq : qAt ((qRect q).emb j) = q := Fin.ext (by show ((qRect q).emb j 1).val / 256 = q.val; omega)
  have hi : inStrip ((qRect q).emb j) = j := funext fun a => match a with
    | 0 => Fin.ext (by show 0 + 1 * (j 0).val = (j 0).val; omega)
    | 1 => Fin.ext (by show ((qRect q).emb j 1).val % 256 = (j 1).val; omega)
  unfold yPiece yAll
  rw [hq, hi]
theorem yPiece_qOf (c : Dev nD) (d : Bool) (s : Fin 4) : acc m d s 3 c = yPiece m c (qOf d s) := by
  rw [yPiece_eq]
  unfold yStrip
  cases d
  · rw [dif_neg (by show ¬ 4 + s.val < 4; omega)]
    congr 1; exact Fin.ext (by show s.val = 4 + s.val - 4; omega)
  · rw [dif_pos (show (qOf true s).val < 4 from s.isLt)]; rfl

theorem yq_join (c : Dev nD) : (bigSep Finset.univ fun t => tile c (yT (ringStrip t)) (yPiece m c (ringStrip t)) : sProp 𝕄) ⊢ tile c yM (yAll m c) :=
  owns_of_rects (Val := Elt F) (c : Thread nD τ) yM fullShare (fun t => qRect (ringStrip t)) (fun _ _ => rfl) yRect_disj (cover _ yRect_cov) (yAll m c)
theorem yh_split (c : Dev nD) : tile c yM (yAll m c) ⊢ (bigSep Finset.univ fun j => tile c (yH j) (yQuarter m c j) : sProp 𝕄) :=
  owns_rects (Val := Elt F) (c : Thread nD τ) yM fullShare hRect (fun _ _ => rfl) hRect_disj (cover _ hRect_cov) (yAll m c)
/-- The strips of the result, made, are its quarters. -/
theorem y_join (c : Dev nD) : all4 (fun s => both (fun d => tile c (yT (qOf d s)) (acc m d s 3 c)))
    ⊢ (all4 (fun j => tile c (yH j) (yQuarter m c j)) : sProp 𝕄) := by
  simp only [yPiece_qOf]
  rw [← strips_eq (fun q => tile c (yT q) (yPiece m c q)), ← all4_eq]
  exact (yq_join m c).trans (yh_split m c)

/-- A quarter of the result. -/
def oQuarter (c : Dev nD) (j : Fin 4) : FVec F S1024x512 .f32 := fun i => outAll m c ((hRect j).emb i)
theorem oQuarter_eq (c : Dev nD) (j : Fin 4) : quant (scale m c) (yQuarter m c j) = oQuarter m c j := by
  unfold quant oQuarter
  funext i
  simp only [shapeCast, Shape.reshapeEquiv_self]
  rfl
theorem oh_join (c : Dev nD) : (bigSep Finset.univ fun j => tile c (oT j) (oQuarter m c j) : sProp 𝕄) ⊢ tile c oA (outAll m c) :=
  owns_of_rects (Val := Elt F) (c : Thread nD τ) oA fullShare hRect (fun _ _ => rfl) hRect_disj (cover _ hRect_cov) (outAll m c)

/-- The quarters of the result, copied out, are the result. -/
theorem o_join (c : Dev nD) : all4 (fun j => tile c (oT j) (quant (scale m c) (yQuarter m c j)))
    ⊢ (((c : Thread nD τ).loc main_v1) ↦{fullShare} outAll m c : sProp 𝕄) := by
  simp only [oQuarter_eq]
  rw [← all4_eq]
  exact (oh_join m c).trans (Entails.of_eq (owns_whole (Val := Elt F) (c : Thread nD τ) main_v1 fullShare (outAll m c)))

/-! ## The arguments -/

theorem any_whole (c : Dev nD) (b : Ref sig .tc) :
    (any c (Memref.whole b) : sProp 𝕄) = iprop(∃ f : Buf (Elt F) ((c : Thread nD τ).loc b), ((c : Thread nD τ).loc b) ↦{fullShare} f) := by
  unfold any slot; simp only [Memref.view_whole, View.set_whole]

/-- Quarter `j` of the weights. -/
def strip4 (c : Dev nD) (j : Fin 4) : FVec F S1024x512 .f32 := fun i => A1 m c ((hRect j).emb i)
theorem srcW_eq (c : Dev nD) (j : Fin 4) :
    (owns (c : Thread nD τ) (wS j) fullShare (strip4 m c j) : sProp 𝕄) = srcW m c j :=
  owns_slice_read (Val := Elt F) (c : Thread nD τ) wA fullShare (hRect j) (fun _ => rfl) (A1 m c)
theorem arg1_eq (c : Dev nD) : (((c : Thread nD τ).loc main_arg1) ↦{fullShare} A1 m c : sProp 𝕄) = all4 (srcW m c) := by
  have h : (wA.view.loc (c : Thread nD τ) ↦[wA.view.set]{fullShare} A1 m c : sProp 𝕄) = bigSep Finset.univ fun j => owns (c : Thread nD τ) (wS j) fullShare (strip4 m c j) :=
    pointsTo_rects (Val := Elt F) (c : Thread nD τ) wA fullShare hRect (fun _ _ => rfl) hRect_disj (cover _ hRect_cov) (A1 m c)
  rw [bigSep_congr fun j _ => srcW_eq m c j, all4_eq] at h
  refine Eq.trans ?_ h
  simp only [Memref.view_whole, View.set_whole]

theorem split_off (ℓ : Loc nD τ sig) (J : Finset (Idx ℓ)) (q : PosShare TreeShare) (f : Buf (Elt F) ℓ) :
    (ℓ ↦{q} f : sProp 𝕄) ⊣⊢ iprop((ℓ ↦[J]{q} f) ∗ ℓ ↦[Finset.univ \ J]{q} f) :=
  pointsTo_split_subset (Finset.subset_univ J)
/-- The elements of `x` a copy reads; the others, at its share; all of `x` at that share. -/
def readX (c : Dev nD) (k : Fin 4) : Finset (Idx ((c : Thread nD τ).loc main_arg0)) := (xS c k).view.set
def restX (c : Dev nD) (k : Fin 4) : sProp 𝕄 := ((c : Thread nD τ).loc main_arg0 ↦[Finset.univ \ readX c k]{shX k} A0 m c)
abbrev allX (c : Dev nD) (k : Fin 4) : sProp 𝕄 := ((c : Thread nD τ).loc main_arg0 ↦{shX k} A0 m c)
theorem srcX_eq (c : Dev nD) (k : Fin 4) : srcX m c k = ((c : Thread nD τ).loc main_arg0 ↦[readX c k]{shX k} A0 m c) := rfl
theorem allX_split (c : Dev nD) (k : Fin 4) : (allX m c k : sProp 𝕄) ⊣⊢ iprop(srcX m c k ∗ restX m c k) := by
  rw [srcX_eq]
  exact split_off ((c : Thread nD τ).loc main_arg0) (readX c k) (shX k) (A0 m c)
theorem arg0_shares (c : Dev nD) : (((c : Thread nD τ).loc main_arg0) ↦{fullShare} A0 m c : sProp 𝕄) ⊣⊢ all4 (allX m c) := by
  have h (q : PosShare TreeShare) := pointsTo_share (Val := Elt F) (Ix := ℕ) (Name := ℕ) (U := UU) (Lvl := ℕ) (ℓ := (c : Thread nD τ).loc main_arg0) (I := Finset.univ) (f := A0 m c)
    (PosShare.mem_left_op_right q)
  unfold all4 allX
  rw [show shX 0 = fullShare.left.left from rfl, show shX 1 = fullShare.left.right from rfl, show shX 2 = fullShare.right.left from rfl,
    show shX 3 = fullShare.right.right from rfl]
  constructor
  · iintro H
    ihave H := (h fullShare).1 $$ H
    icases H with ⟨A, B⟩
    ihave A := (h fullShare.left).1 $$ A
    icases A with ⟨A, A'⟩
    ihave B := (h fullShare.right).1 $$ B
    icases B with ⟨B, B'⟩
    isplitl [A]; · iexact A
    isplitl [A']; · iexact A'
    isplitl [B]; · iexact B
    iexact B'
  · iintro ⟨A, A', B, B'⟩
    iapply (h fullShare).2
    isplitl [A A']
    · iapply (h fullShare.left).2
      isplitl [A]; · iexact A
      iexact A'
    · iapply (h fullShare.right).2
      isplitl [B]; · iexact B
      iexact B'
theorem arg0_split (c : Dev nD) : (((c : Thread nD τ).loc main_arg0) ↦{fullShare} A0 m c : sProp 𝕄) ⊢ iprop(all4 (srcX m c) ∗ all4 (restX m c)) := by
  rw [← all4_sep]; exact (arg0_shares m c).1.trans (all4_mono fun k => (allX_split m c k).1)
theorem arg0_join (c : Dev nD) : iprop(all4 (srcX m c) ∗ all4 (restX m c)) ⊢ (((c : Thread nD τ).loc main_arg0) ↦{fullShare} A0 m c : sProp 𝕄) := by
  rw [← all4_sep]; exact (all4_mono fun k => (allX_split m c k).2).trans (arg0_shares m c).2

end Cert.KernelIdeal.Body

end
-- ==== Proof.Whole.lean ====
/-
  The body of a device, from all it starts with to all it ends with.
-/
module

public import proofs.«01_k».proof.Proof.Geometry

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CellK → ℕ) (I : Key → ℕ)

/-! ## What the body starts with, and ends with -/

def Out (c : Dev nD) (j : Fin 4) : sProp 𝕄 := iprop(posn c (.oc j) ∗ tok c (.oc j) 0 ∗ any c (oT j))
/-- All that the first semaphores, the copies and the barrier need. -/
def Start0 (c : Dev nD) : sProp 𝕄 :=
  iprop(all4 (CpX m c) ∗ all4 (CpW m c) ∗ all4 (fun k => posn c (.xc k)) ∗ all4 (fun k => posn c (.wc k)) ∗ posn c .bar ∗ both (Bar c) ∗ both (payBar c))
/-- All that the hops need. -/
def Start1 (c : Dev nD) : sProp 𝕄 :=
  iprop(all4 (fun s => both (fun d => any c (cT d 0 s))) ∗ all4 (fun s => both (fun d => Hop c d 0 s)) ∗ all4 (fun s => both (fun d => Hop c d 1 s))
    ∗ all4 (fun s => both (fun d => Hop c d 2 s)) ∗ all4 (fun s => both (fun d => Twice c d s)) ∗ both (fun d => posn c (.crd d)))
/-- All that the end needs. -/
def Start2 (c : Dev nD) : sProp 𝕄 := iprop(any c (aT 0) ∗ Amx c 0 ∗ Amx c 1 ∗ Amx c 2 ∗ all4 (Out c))

/-- Every semaphore at rest. -/
def Dones (c : Dev nD) : sProp 𝕄 :=
  iprop(done c .bar ∗ (all4 (fun s => both (fun d => Shut c d 0 s)) ∗ all4 (fun s => both (fun d => Shut c d 1 s)) ∗ all4 (fun s => both (fun d => Shut c d 2 s)))
    ∗ both (fun d => done c (.crd d)) ∗ (DoneA c 0 ∗ DoneA c 1 ∗ DoneA c 2) ∗ all4 (fun k => done c (.xc k)) ∗ all4 (fun k => done c (.wc k))
    ∗ all4 (fun k => done c (.oc k)))
/-- The buffers at the end. -/
def Final (c : Dev nD) : sProp 𝕄 :=
  iprop(all4 (fun k => any c (xT k)) ∗ all4 (srcX m c) ∗ all4 (wq m c) ∗ all4 (srcW m c) ∗ all4 (fun s => both (fun d => any c (cT d 0 s)))
    ∗ all4 (fun s => both (fun d => any c (cT d 1 s))) ∗ all4 (fun j => any c (yH j)) ∗ all4 (fun j => any c (aT j))
    ∗ all4 (fun j => tile c (oT j) (quant (scale m c) (yQuarter m c j))))

/-! ## What one stage leaves is what the next takes -/

theorem Wt_all (c : Dev nD) (k : Fin 4 → CellK) : all4 (fun j => Wt c (k j)) = (iprop(all4 (fun j => posn c (k j)) ∗ all4 (fun j => crdt c (k j) 0)) : sProp 𝕄) := by
  unfold Wt; rw [all4_sep]
theorem Land0_all (c : Dev nD) : all4 (Land0 c) = (iprop(all4 (fun s => both (fun d => Hop c d 0 s)) ∗ all4 (fun s => both (fun d => any (tow d c) (cT d 1 s)))
    ∗ all4 (fun s => both (fun d => extra (tow d c) d 0 s))) : sProp 𝕄) := by
  rw [← all4_sep, ← all4_sep]; rfl
theorem Pre0_all (c : Dev nD) : all4 (Pre0 c) = (iprop(all4 (fun s => both (fun d => Fly c d 0 s)) ∗ all4 (fun s => both (fun d => Twice c d s))
    ∗ all4 (fun s => both (fun d => Hop c d 1 s))) : sProp 𝕄) := by
  rw [← all4_sep, ← all4_sep]; rfl
theorem Post0_all (c : Dev nD) : all4 (Post0 c) = (iprop(all4 (fun s => both (fun d => Fly c d 1 s)) ∗ all4 (fun s => both (fun d => extra c d 0 s))
    ∗ all4 (fun s => both (fun d => Shut c d 0 s))) : sProp 𝕄) := by
  rw [← all4_sep, ← all4_sep]; rfl
theorem Pre1_all (c : Dev nD) : all4 (Pre1 c) = (iprop(all4 (fun s => both (fun d => Fly c d 1 s)) ∗ all4 (fun s => both (fun d => Hop c d 2 s))
    ∗ all4 (fun s => both (fun d => any (tow d c) (yT (qOf d s))))) : sProp 𝕄) := by
  rw [← all4_sep, ← all4_sep]; rfl
theorem Post1_all (c : Dev nD) : all4 (Post1 c) = (iprop(all4 (fun s => both (fun d => Fly c d 2 s)) ∗ all4 (fun s => both (fun d => any c (cT d 1 s)))
    ∗ all4 (fun s => both (fun d => Shut c d 1 s))) : sProp 𝕄) := by
  rw [← all4_sep, ← all4_sep]; rfl
theorem Post2_all (c : Dev nD) : all4 (Post2 m c) = (iprop(all4 (fun s => both (fun d => tile c (yT (qOf d s)) (acc m d s 3 c)))
    ∗ all4 (fun s => both (fun d => any c (cT d 0 s))) ∗ all4 (fun s => both (fun d => Shut c d 2 s))) : sProp 𝕄) := by
  rw [← all4_sep, ← all4_sep]; rfl
theorem Out0_all (c : Dev nD) : (iprop(all4 (fun j => iprop(posn c (.oc j) ∗ tok c (.oc j) 0)) ∗ all4 (fun j => tile c (yH j) (yQuarter m c j))
    ∗ all4 (fun j => any c (oT j))) : sProp 𝕄) ⊢ all4 (Out0 m c) := by
  rw [← all4_sep, ← all4_sep]
  refine all4_mono fun j => ?_
  unfold Out0
  iintro ⟨⟨A, B⟩, C, D⟩
  isplitl [A]; · iexact A
  isplitl [B]; · iexact B
  isplitl [C] <;> iassumption
theorem Out_all (c : Dev nD) : (all4 (Out c) : sProp 𝕄) ⊢ iprop(all4 (fun j => iprop(posn c (.oc j) ∗ tok c (.oc j) 0)) ∗ all4 (fun j => any c (oT j))) := by
  rw [← all4_sep]
  refine all4_mono fun j => ?_
  unfold Out
  iintro ⟨A, B, D⟩
  isplitl [A B]
  · isplitl [A] <;> iassumption
  iexact D
theorem Out1_all (c : Dev nD) : all4 (Out1 m c) = (iprop(all4 (fun j => tile c (oT j) (quant (scale m c) (yQuarter m c j)))
    ∗ all4 (fun j => any c (yH j)) ∗ all4 (fun j => done c (.oc j))) : sProp 𝕄) := by
  rw [← all4_sep, ← all4_sep]; rfl

theorem Cr_zero (c : Dev nD) : both (fun d => posn c (.crd d)) ⊢ (Cr c 0 : sProp 𝕄) := by
  unfold Cr
  have h : (both (fun d => heard c d 0) : sProp 𝕄) = iprop(emp ∗ emp) := by show iprop(heard c true 0 ∗ heard c false 0) = _; rw [heard_zero, heard_zero]
  rw [h]
  iintro H
  isplitr
  · isplitr <;> iempintro
  iapply (both_mono fun d => Credits_zero c d); iexact H
theorem Cr_four (c : Dev nD) : (Cr c 4 : sProp 𝕄) ⊢ both (fun d => done c (.crd d)) := by
  unfold Cr
  iintro ⟨-, H⟩
  iapply (both_mono (P := fun d => Credits c d 4) fun d => by unfold Credits; rw [if_pos rfl]); iexact H

theorem extra_take (c : Dev nD) : all4 (fun s => both (fun d => extra c d 0 s)) ⊢ (any (dia c) (aT 3) : sProp 𝕄) := by
  unfold all4 both
  iintro ⟨⟨-, H⟩, -⟩
  iapply (extra_open c); iexact H

/-! ## The body -/

theorem wp_whole (c : Dev nD) (Φ : PUnit → sProp 𝕄) :
    iprop(ctx m K I ∗ Start0 m c ∗ Start1 c ∗ Start2 c ∗ ow c owed)
      ⊢ iprop((ow c [] ∗ Final m c ∗ Dones c -∗ Φ ⟨⟩) -∗ WP c (whole c (nxt c) (prv c) (dia c)) Φ) := by
  unfold whole
  simp only [WP_bind]
  unfold Start0 Start1 Start2
  iintro ⟨#C, ⟨X, W, PX, PW, PB, TB, GB⟩, ⟨C0, H0, H1, H2, T, PC⟩, ⟨A0, M0, M1, M2, PO⟩, O⟩ Hk
  ihave PO := (Out_all c) $$ PO
  icases PO with ⟨PO, ZO⟩
  iapply (wp_prologue m K I c _) $$ [X W PB TB GB O]
  · isplitr; · iexact C
    isplitl [X]; · iexact X
    isplitl [W]; · iexact W
    isplitl [PB]; · iexact PB
    isplitl [TB]; · iexact TB
    isplitl [GB] <;> iassumption
  iintro ⟨O, X, W, Y1, Y2, DB⟩
  ihave Y := (bar_open c) $$ [Y1 Y2]
  · isplitl [Y1] <;> iassumption
  unfold Far
  icases Y with ⟨L1, LY, B1, B2, B3⟩
  ihave E := (extras c) $$ B3
  ihave W := (Entails.of_eq (Wt_all c .wc).symm) $$ [PW W]
  · isplitl [PW] <;> iassumption
  ihave X := (Entails.of_eq (Wt_all c .xc).symm) $$ [PX X]
  · isplitl [PX] <;> iassumption
  ihave X := (show all4 (fun j => Wt c (.xc j)) ⊢ (iprop(Wt c (.xc 0) ∗ Wt c (.xc 1) ∗ Wt c (.xc 2) ∗ Wt c (.xc 3)) : sProp 𝕄) from .rfl) $$ X
  icases X with ⟨X0, X1, X2, X3⟩
  ihave L := (Entails.of_eq (Land0_all c).symm) $$ [H0 L1 E]
  · isplitl [H0]; · iexact H0
    isplitl [L1] <;> iassumption
  iapply (wp_firsts m K I c _) $$ [W X0 X1 C0 L O]
  · isplitr; · iexact C
    isplitl [W]; · iexact W
    isplitl [X0]; · iexact X0
    isplitl [X1]; · iexact X1
    isplitl [C0]; · iexact C0
    isplitl [L] <;> iassumption
  iintro ⟨O, X, W, S0, S1, SW, L, D0, D1, DW⟩
  ihave L := (Entails.of_eq (Pre0_all c).symm) $$ [L T H1]
  · isplitl [L]; · iexact L
    isplitl [T] <;> iassumption
  ihave R := (Cr_zero c) $$ PC
  iapply (wp_hop0 m K I c _) $$ [X2 W L R O]
  · isplitr; · iexact C
    isplitl [X2]; · iexact X2
    isplitl [W]; · iexact W
    isplitl [L]; · iexact L
    isplitl [R] <;> iassumption
  iintro ⟨O, W, X2, S2, D2, L, R⟩
  ihave DC := (Cr_four c) $$ R
  ihave L := (Entails.of_eq (Post0_all c)) $$ L
  icases L with ⟨L, E, N0⟩
  ihave B3 := (extra_take c) $$ E
  ihave L := (Entails.of_eq (Pre1_all c).symm) $$ [L H2 LY]
  · isplitl [L]; · iexact L
    isplitl [H2] <;> iassumption
  iapply (wp_hop1 m K I c _) $$ [X W L O]
  · isplitr; · iexact C
    isplitl [X]; · iexact X
    isplitl [W]; · iexact W
    isplitl [L] <;> iassumption
  iintro ⟨O, ⟨X0, X1⟩, W, L⟩
  ihave L := (Entails.of_eq (Post1_all c)) $$ L
  icases L with ⟨L, C1, N1⟩
  iapply (wp_hop2 m K I c _) $$ [X3 W L O]
  · isplitr; · iexact C
    isplitl [X3]; · iexact X3
    isplitl [W]; · iexact W
    isplitl [L] <;> iassumption
  iintro ⟨O, W, X3, S3, D3, L⟩
  ihave L := (Entails.of_eq (Post2_all m c)) $$ L
  icases L with ⟨Y, C0, N2⟩
  iapply (wp_maxima m K I c _) $$ [A0 B1 B2 B3 M0 M1 M2 O]
  · isplitr; · iexact C
    isplitl [A0]; · iexact A0
    isplitl [B1]; · iexact B1
    isplitl [B2]; · iexact B2
    isplitl [B3]; · iexact B3
    isplitl [M0]; · iexact M0
    isplitl [M1]; · iexact M1
    isplitl [M2]; · iexact M2
    iexact O
  iintro ⟨O, A, DA⟩
  ihave Y := (y_join m c) $$ Y
  ihave Z := (Out0_all m c) $$ [PO Y ZO]
  · isplitl [PO]; · iexact PO
    isplitl [Y] <;> iassumption
  iapply (wp_outs m K I c _) $$ [Z O]
  · isplitr; · iexact C
    isplitl [Z] <;> iassumption
  iintro ⟨O, Z⟩
  ihave Z := (Entails.of_eq (Out1_all m c)) $$ Z
  icases Z with ⟨Z, Y, DO⟩
  iapply Hk
  unfold Final Dones
  isplitl [O]; · iexact O
  isplitl [X0 X1 X2 X3 S0 S1 S2 S3 W SW C0 C1 Y A Z]
  · isplitl [X0 X1 X2 X3]
    · iapply (show (iprop(xs m c 0 ∗ xs m c 1 ∗ xs m c 2 ∗ xs m c 3) : sProp 𝕄) ⊢ _ from all4_mono fun k => tile_any c (xT k) (chunk m c k))
      isplitl [X0]; · iexact X0
      isplitl [X1]; · iexact X1
      isplitl [X2] <;> iassumption
    isplitl [S0 S1 S2 S3]
    · iapply (show (iprop(srcX m c 0 ∗ srcX m c 1 ∗ srcX m c 2 ∗ srcX m c 3) : sProp 𝕄) ⊢ all4 (srcX m c) from .rfl)
      isplitl [S0]; · iexact S0
      isplitl [S1]; · iexact S1
      isplitl [S2] <;> iassumption
    isplitl [W]; · iexact W
    isplitl [SW]; · iexact SW
    isplitl [C0]; · iexact C0
    isplitl [C1]; · iexact C1
    isplitl [Y]; · iexact Y
    isplitl [A] <;> iassumption
  isplitl [DB]; · iexact DB
  isplitl [N0 N1 N2]
  · isplitl [N0]; · iexact N0
    isplitl [N1] <;> iassumption
  isplitl [DC]; · iexact DC
  isplitl [DA]; · iexact DA
  isplitl [D0 D1 D2 D3]
  · iapply (show (iprop(done c (.xc 0) ∗ done c (.xc 1) ∗ done c (.xc 2) ∗ done c (.xc 3)) : sProp 𝕄) ⊢ all4 (fun k => done c (.xc k)) from .rfl)
    isplitl [D0]; · iexact D0
    isplitl [D1]; · iexact D1
    isplitl [D2] <;> iassumption
  isplitl [DW] <;> iassumption

end Cert.KernelIdeal.Body

end
-- ==== Proof.Deal.lean ====
/-
  What the launch mints — the cells, their tokens, the slots' records — and how it is dealt to the devices.
-/
module

public import proofs.«01_k».proof.Proof.Whole

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CellK → ℕ) (I : Key → ℕ)

/-! ## Families over the cells, kind by kind -/

def three (P : Fin 3 → sProp 𝕄) : sProp 𝕄 := iprop(P 0 ∗ P 1 ∗ P 2)
theorem three_eq (P : Fin 3 → sProp 𝕄) : bigSep Finset.univ P = three P :=
  bigSep_univ_eq_bigSepL [0, 1, 2] (by decide) (by decide) P
/-- A family over the strips of both rings, and over their hops. -/
def strips (P : Bool → Fin 4 → sProp 𝕄) : sProp 𝕄 := all4 (fun s => both (fun d => P d s))
def hops (P : Bool → Fin 3 → Fin 4 → sProp 𝕄) : sProp 𝕄 := three (fun h => strips (fun d s => P d h s))

theorem strips_sep (P Q : Bool → Fin 4 → sProp 𝕄) : strips (fun d s => iprop(P d s ∗ Q d s)) = iprop(strips P ∗ strips Q) := by
  unfold strips
  rw [← all4_sep]
  exact congrArg all4 (funext fun s => both_sep (fun d => P d s) (fun d => Q d s))
theorem pairs_eq (P : Bool → Fin 4 → sProp 𝕄) : (bigSep Finset.univ fun x : Bool × Fin 4 => P x.1 x.2) = strips P := by
  unfold strips
  rw [bigSep_univ_prod, ← all4_both, both_eq]
  exact congrArg both (funext fun d => all4_eq _)
theorem hops_eq (P : Bool → Fin 3 → Fin 4 → sProp 𝕄) : (bigSep Finset.univ fun x : HopIx => P x.1 x.2.2 x.2.1) = hops P := by
  have h (d : Bool) : (bigSep Finset.univ fun y : Fin 4 × Fin 3 => P d y.2 y.1) = iprop(all4 (P d 0) ∗ all4 (P d 1) ∗ all4 (P d 2)) := by
    rw [bigSep_univ_prod, all4_eq, ← all4_sep, ← all4_sep]
    exact congrArg all4 (funext fun s => three_eq fun h => P d h s)
  rw [bigSep_univ_prod, both_eq]
  show both (fun d => bigSep Finset.univ fun y : Fin 4 × Fin 3 => P d y.2 y.1)
    = iprop(all4 (fun s => both fun d => P d 0 s) ∗ all4 (fun s => both fun d => P d 1 s) ∗ all4 (fun s => both fun d => P d 2 s))
  rw [← all4_both (fun d => P d 0), ← all4_both (fun d => P d 1), ← all4_both (fun d => P d 2), ← both_sep, ← both_sep]
  exact congrArg both (funext h)

theorem cells_eq (P : CellK → sProp 𝕄) : bigSep Finset.univ P
    = iprop(P .bar ∗ hops (fun d h s => P (.snd d h s)) ∗ hops (fun d h s => P (.rcv d h s)) ∗ both (fun d => P (.crd d))
      ∗ three (fun j => P (.sndA j)) ∗ three (fun j => P (.rcvA j)) ∗ all4 (fun k => P (.xc k)) ∗ all4 (fun k => P (.wc k)) ∗ all4 (fun k => P (.oc k))) := by
  rw [bigSep_univ_equiv cellEquiv]
  simp only [bigSep_univ_sum, Finset.univ_unique, bigSep_singleton]
  rw [← hops_eq, ← hops_eq, ← both_eq, ← three_eq, ← three_eq, ← all4_eq, ← all4_eq, ← all4_eq]
  rfl

/-! ## The tokens, by who pays -/

abbrev PaySum : Type := Bool ⊕ HopIx ⊕ HopIx ⊕ (Bool × Fin 4) ⊕ Fin 3 ⊕ Fin 3 ⊕ Fin 4 ⊕ Fin 4 ⊕ Fin 4

def eTow (d : Bool) : Dev nD ≃ Dev nD := ⟨tow d, tow (!d), tow_tow d, tow_tow' d⟩
def eA (j : Fin 3) : Dev nD ≃ Dev nD := ⟨aTo j, aFrom j, aFrom_aTo j, aTo_aFrom j⟩

/-- A payment's cell, its duty there, and whose cell it is. -/
def pk : PaySum → CellK
  | .inl _ => .bar
  | .inr (.inl (d, s, h)) => .snd d h s
  | .inr (.inr (.inl (d, s, h))) => .rcv d h s
  | .inr (.inr (.inr (.inl (d, _)))) => .crd d
  | .inr (.inr (.inr (.inr (.inl j)))) => .sndA j
  | .inr (.inr (.inr (.inr (.inr (.inl j))))) => .rcvA j
  | .inr (.inr (.inr (.inr (.inr (.inr (.inl k)))))) => .xc k
  | .inr (.inr (.inr (.inr (.inr (.inr (.inr (.inl k))))))) => .wc k
  | .inr (.inr (.inr (.inr (.inr (.inr (.inr (.inr k))))))) => .oc k
def pd : PaySum → ℕ
  | .inl d => duty d
  | .inr (.inr (.inr (.inl (_, s)))) => s.val
  | _ => 0
def pe : PaySum → (Dev nD ≃ Dev nD)
  | .inl d => eTow d
  | .inr (.inr (.inl (d, _, _))) => eTow d
  | .inr (.inr (.inr (.inl (d, _)))) => eTow (!d)
  | .inr (.inr (.inr (.inr (.inr (.inl j))))) => eA j
  | _ => Equiv.refl _

theorem pay_inj : Function.Injective (fun x : PaySum => (pk x, pd x)) := by
  rintro (⟨_ | _⟩ | ⟨_, _, _⟩ | ⟨_, _, _⟩ | ⟨_, _⟩ | _ | _ | _ | _ | _) (⟨_ | _⟩ | ⟨_, _, _⟩ | ⟨_, _, _⟩ | ⟨_, _⟩ | _ | _ | _ | _ | _) h <;>
  simp only [pk, pd, duty, Prod.mk.injEq, CellK.snd.injEq, CellK.rcv.injEq, CellK.crd.injEq, CellK.sndA.injEq, CellK.rcvA.injEq, CellK.xc.injEq,
    CellK.wc.injEq, CellK.oc.injEq, reduceCtorEq, false_and, Fin.val_inj, and_true, true_and, Nat.one_ne_zero, Nat.zero_ne_one] at h <;>
  first
  | rfl
  | (obtain ⟨rfl, rfl, rfl⟩ := h; rfl)
  | (obtain ⟨rfl, rfl⟩ := h; rfl)
  | (subst h; rfl)

theorem toks_eq (c : Dev nD) : (bigSep Finset.univ fun x : PaySum => tok (pe x c) (pk x) (pd x) : sProp 𝕄)
    = iprop(both (fun d => tok (tow d c) .bar (duty d)) ∗ hops (fun d h s => tok c (.snd d h s) 0) ∗ hops (fun d h s => tok (tow d c) (.rcv d h s) 0)
      ∗ strips (fun d s => tok (tow (!d) c) (.crd d) s.val) ∗ three (fun j => tok c (.sndA j) 0) ∗ three (fun j => tok (aTo j c) (.rcvA j) 0)
      ∗ all4 (fun k => tok c (.xc k) 0) ∗ all4 (fun k => tok c (.wc k) 0) ∗ all4 (fun k => tok c (.oc k) 0)) := by
  simp only [bigSep_univ_sum]
  rw [← hops_eq, ← hops_eq, ← pairs_eq, ← both_eq, ← three_eq, ← three_eq, ← all4_eq, ← all4_eq, ← all4_eq]
  rfl

/-- The tokens minted at the payee are dealt to the payers. -/
theorem toks_around : (bigSep Finset.univ fun c : Dev nD => bigSep Finset.univ fun x : PaySum => tok c (pk x) (pd x) : sProp 𝕄)
    = bigSep Finset.univ fun c : Dev nD => bigSep Finset.univ fun x : PaySum => tok (pe x c) (pk x) (pd x) := by
  rw [BI.bigSep_univ_comm, BI.bigSep_univ_comm (fun (c : Dev nD) (x : PaySum) => (tok (pe x c) (pk x) (pd x) : sProp 𝕄))]
  exact bigSep_congr fun x _ => bigSep_univ_equiv (pe x) (fun c => (tok c (pk x) (pd x) : sProp 𝕄))
theorem writes_around : (bigSep Finset.univ fun c : Dev nD => bigSep Finset.univ fun y : Bool × Fin 4 => writeTok ES (c, y) 1 : sProp 𝕄)
    = bigSep Finset.univ fun c : Dev nD => bigSep Finset.univ fun y : Bool × Fin 4 => writeTok ES (tow y.1 c, y) 1 := by
  rw [BI.bigSep_univ_comm, BI.bigSep_univ_comm (fun (c : Dev nD) (y : Bool × Fin 4) => (writeTok ES (tow y.1 c, y) 1 : sProp 𝕄))]
  exact bigSep_congr fun y _ => bigSep_univ_equiv (eTow y.1) (fun c => (writeTok ES (c, y) 1 : sProp 𝕄))

/-! ## What the launch mints -/

def ringCells : Finset (GSem nD τ sig) := Finset.univ.map ⟨fun x : Dev nD × CellK => cell x.1 x.2, cell_inj⟩
theorem tokOf_inj : Function.Injective (fun x : Dev nD × PaySum => ((cell x.1 (pk x.2), 0, pd x.2) : GSem nD τ sig × ℕ × ℕ)) := by
  rintro ⟨c, x⟩ ⟨c', x'⟩ h
  have h1 := cell_inj (a₁ := (c, pk x)) (a₂ := (c', pk x')) (congrArg Prod.fst h)
  have h2 : pd x = pd x' := congrArg (fun y : GSem nD τ sig × ℕ × ℕ => y.2.2) h
  have h3 := pay_inj (a₁ := x) (a₂ := x') (Prod.ext (congrArg Prod.snd h1) h2)
  rw [show c = c' from congrArg Prod.fst h1, h3]
def ringToks : Finset (GSem nD τ sig × ℕ × ℕ) := Finset.univ.map ⟨_, tokOf_inj⟩

def u₀ : UU :=
  (initOf (Pipeline.cells cfgs cellOf_inj) (Pipeline.launchToks cfgs cellOf_inj), (initOf ringCells ringToks, initSlots Finset.univ 1))

/-- The device's own cells as minted. -/
def G0 (c : Dev nD) : sProp 𝕄 :=
  iprop((bigSep Finset.univ fun k : CellK => roundState ER (Rd m) (cell c k) 0) ∗ (bigSep Finset.univ fun k : CellK => posn c k)
    ∗ (bigSep Finset.univ fun k : CellK => reached ER (cell c k) 0) ∗ bigSep Finset.univ fun x : PaySum => tok c (pk x) (pd x))
/-- The device's own slots as minted. -/
def G1 (c : Dev nD) : sProp 𝕄 :=
  iprop((bigSep Finset.univ fun y : Bool × Fin 4 => iprop(∃ ι : ℕ, slotInv ES ι (c, y) (any c (cT y.1 0 y.2))))
    ∗ (bigSep Finset.univ fun y : Bool × Fin 4 => readerAt ES (c, y) 0) ∗ bigSep Finset.univ fun y : Bool × Fin 4 => writeTok ES (c, y) 1)
def G (c : Dev nD) : sProp 𝕄 := iprop(G0 m c ∗ G1 c)

theorem fund_cells : BI.own (ER (initOf ringCells ringToks)) ⊢ (|==> bigSep Finset.univ (G0 m) : sProp 𝕄) := by
  have hX (Φ : GSem nD τ sig → sProp 𝕄) : bigSep ringCells Φ = bigSep Finset.univ fun c : Dev nD => bigSep Finset.univ fun k : CellK => Φ (cell c k) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun x : PaySum => tok c (pk x) (pd x) := by
    unfold ringToks; rw [bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G0; simp only [bigSep_sep']
  isplitl [Hst]; · iexact Hst
  isplitl [Hat]; · iexact Hat
  isplitl [Hr] <;> iassumption

theorem fund_slots : BI.own (ES (initSlots Finset.univ 1)) ⊢ (|={Set.univ}=> bigSep Finset.univ G1 : sProp 𝕄) := by
  have hX (Φ : Key → sProp 𝕄) : bigSep Finset.univ Φ = bigSep Finset.univ fun c : Dev nD => bigSep Finset.univ fun y : Bool × Fin 4 => Φ (c, y) := by
    rw [bigSep_univ_prod]
  have hW : (bigSep ((Finset.univ : Finset Key) ×ˢ Finset.range 1) fun x => (writeTok ES x.1 (x.2 + 1) : sProp 𝕄)) = bigSep Finset.univ fun k : Key => writeTok ES k 1 := by
    rw [Finset.range_one, Finset.product_singleton, bigSep_map]
    rfl
  have hI (ι : Key → ℕ) : (bigSep Finset.univ fun k : Key => slotInv ES (ι k) k (any k.1 (cT k.2.1 0 k.2.2)) : sProp 𝕄)
      ⊢ bigSep Finset.univ fun k : Key => iprop(∃ ι : ℕ, slotInv ES ι k (any k.1 (cT k.2.1 0 k.2.2))) := by
    have h1 (k : Key) : slotInv ES (ι k) k (any k.1 (cT k.2.1 0 k.2.2)) ⊢ (iprop(∃ ι : ℕ, slotInv ES ι k (any k.1 (cT k.2.1 0 k.2.2))) : sProp 𝕄) := by
      iintro H; iexists (ι k); iexact H
    exact bigSep_mono fun k _ => h1 k
  iintro H
  imod (slots_init (Es := Set.univ) ES Finset.univ 1 (fun k : Key => any k.1 (cT k.2.1 0 k.2.2))) $$ H with ⟨%ι, -, HI, HR, HW⟩
  imodintro
  ihave HI := (hI ι) $$ HI
  ihave HI := (Entails.of_eq (hX _)) $$ HI
  ihave HR := (Entails.of_eq (hX _)) $$ HR
  ihave HW := (Entails.of_eq (hW.trans (hX _))) $$ HW
  unfold G1; simp only [bigSep_sep']
  isplitl [HI]; · iexact HI
  isplitl [HR] <;> iassumption

theorem fund : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb embR _ _) $$ HX
  icases H with ⟨HR, HS⟩
  imod (fund_cells m) $$ HR with HR
  imod fund_slots $$ HS with HS
  imodintro
  isplitl [HP]; · iexact HP
  unfold G; rw [bigSep_sep']
  isplitl [HR] <;> iassumption

/-! ## The semaphores -/

abbrev OwnIx : Type := HopIx ⊕ HopIx ⊕ Bool ⊕ Fin 3 ⊕ Fin 3 ⊕ Fin 4 ⊕ Fin 4 ⊕ Fin 4
/-- The kernel's own semaphores: all but the barrier. -/
def osem (o : OwnIx) : SemLoc sig := loc (cellEquiv (.inr o))

theorem ownSemFacts : Pipeline.OwnSemFacts cfg0.spec osem where
  isScoped := by
    rintro (⟨d, s, h⟩ | ⟨d, s, h⟩ | d | j | j | k | k | k)
    · revert d s h; decide
    · revert d s h; decide
    · revert d; decide
    · revert j; decide
    · revert j; decide
    · revert k; decide
    · revert k; decide
    · revert k; decide
  inj := fun a b h => Sum.inr_injective (cellEquiv.injective (loc_inj h))
  disj := fun _ w => w.elim0

theorem sems_eq (c : Dev nD) : (bigSep Finset.univ fun k : CellK => done c k : sProp 𝕄)
    = iprop(unscopedSems0 c ∗ Pipeline.ownSems0 (Ix := ℕ) (Name := ℕ) (U := UU) (Lvl := ℕ) (Val := Elt F) (τ := τ) osem c) := by
  have hu : (unscopedSems0 c : sProp 𝕄) = done c .bar := by
    unfold unscopedSems0; rw [bigSep_eq_bigSepL_of_eq [SemLoc.reg bSem] (by decide) (by decide)]; rfl
  rw [hu, bigSep_univ_equiv cellEquiv, bigSep_univ_sum, Finset.univ_unique, bigSep_singleton]
  rfl

/-! ## The global step -/

/-- What the devices share, the levels apart. -/
def shared (K : Dev nD × CellK → ℕ) (I : Key → ℕ) : sProp 𝕄 :=
  iprop((bigSep Finset.univ fun x : Dev nD × CellK => cellInv ER (Rd m) (K x) (cell x.1 x.2))
    ∗ (bigSep Finset.univ fun x : Dev nD × CellK => reached ER (cell x.1 x.2) 0)
    ∗ (bigSep Finset.univ fun k : Key => slotInv ES (I k) k (any k.1 (cT k.2.1 0 k.2.2))))
instance shared_persistent (K : Dev nD × CellK → ℕ) (I : Key → ℕ) : BI.Persistent (shared m K I) := by unfold shared; infer_instance

/-- What device `c` is dealt. -/
def ghost (c : Dev nD) : sProp 𝕄 :=
  iprop((bigSep Finset.univ fun k : CellK => posn c k) ∗ (bigSep Finset.univ fun x : PaySum => tok (pe x c) (pk x) (pd x))
    ∗ (bigSep Finset.univ fun y : Bool × Fin 4 => readerAt ES (c, y) 0) ∗ bigSep Finset.univ fun y : Bool × Fin 4 => writeTok ES (tow y.1 c, y) 1)
def G' (c : Dev nD) : sProp 𝕄 := iprop(∃ K I, shared m K I ∗ ghost c)

/-- A device's part after the invariants of its cells are made. -/
def Made (c : Dev nD) : sProp 𝕄 :=
  iprop((bigSep Finset.univ fun k : CellK => iprop(∃ κ : ℕ, cellInv ER (Rd m) κ (cell c k))) ∗ (bigSep Finset.univ fun k : CellK => posn c k)
    ∗ (bigSep Finset.univ fun k : CellK => reached ER (cell c k) 0) ∗ (bigSep Finset.univ fun x : PaySum => tok c (pk x) (pd x)) ∗ G1 c)

theorem core_alloc (c : Dev nD) :
    iprop(Pipeline.ownSems0 (Ix := ℕ) (Name := ℕ) (U := UU) (Lvl := ℕ) (Val := Elt F) (τ := τ) osem c ∗ unscopedSems0 c ∗ G m c) ⊢ |={Set.univ}=> Made m c := by
  unfold G G0 Made
  iintro ⟨Hos, Hus, ⟨Hst, Hat, Hr, Htok⟩, HS⟩
  ihave Hv := (Entails.of_eq (sems_eq (F := F) c).symm) $$ [Hos Hus]
  · isplitl [Hus] <;> iassumption
  imod (show iprop((bigSep Finset.univ fun k : CellK => done c k) ∗ bigSep Finset.univ fun k : CellK => roundState ER (Rd m) (cell c k) 0)
      ⊢ (|={Set.univ}=> bigSep Finset.univ fun k : CellK => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok] <;> iassumption

theorem regroup : bigSep Finset.univ (Made m) ⊢ (bigSep Finset.univ (G' m) : sProp 𝕄) := by
  unfold Made G1
  simp only [bigSep_sep']
  rw [toks_around, writes_around, ← bigSep_univ_prod (fun x : Dev nD × CellK => iprop(∃ κ : ℕ, cellInv ER (Rd m) κ (cell x.1 x.2))),
    ← bigSep_univ_prod (fun x : Dev nD × CellK => (reached ER (cell x.1 x.2) 0 : sProp 𝕄)),
    ← bigSep_univ_prod (fun k : Key => (iprop(∃ ι : ℕ, slotInv ES ι k (any k.1 (cT k.2.1 0 k.2.2))) : sProp 𝕄))]
  iintro ⟨HI, HP, #HR, HT, HS, HD, HW⟩
  ihave HK := (BI.bigSep_exists_pi Finset.univ (fun (x : Dev nD × CellK) (κ : ℕ) => (cellInv ER (Rd m) κ (cell x.1 x.2) : sProp 𝕄))) $$ HI
  icases HK with ⟨%K, #HI⟩
  ihave HK := (BI.bigSep_exists_pi Finset.univ (fun (k : Key) (ι : ℕ) => (slotInv ES ι k (any k.1 (cT k.2.1 0 k.2.2)) : sProp 𝕄))) $$ HS
  icases HK with ⟨%I, #HS⟩
  have hc (c : Dev nD) : iprop(shared m K I ∗ ghost c) ⊢ (G' m c : sProp 𝕄) := by
    unfold G'
    iintro H; iexists K; iexists I; iexact H
  have h : iprop(shared m K I ∗ bigSep Finset.univ ghost) ⊢ (bigSep Finset.univ (G' m) : sProp 𝕄) :=
    (sep_mono_left (BI.bigSep_of_persistent Finset.univ (shared m K I))).trans (by
      rw [← bigSep_sep']
      exact bigSep_mono fun c _ => hc c)
  iapply h
  isplitr
  · unfold shared
    isplitr; · iexact HI
    isplitr; · iexact HR
    iexact HS
  unfold ghost; simp only [bigSep_sep']
  isplitl [HP]; · iexact HP
  isplitl [HT]; · iexact HT
  isplitl [HD] <;> iassumption

/-- The global step: every device's semaphores at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of what is owed -/

abbrev ItemSum : Type := Bool ⊕ HopIx ⊕ (Bool × Fin 4) ⊕ Fin 3
def itemEquiv : ItemSum ≃ Item where
  toFun
    | .inl d => .bar d
    | .inr (.inl (d, s, h)) => .rcv d h s
    | .inr (.inr (.inl (d, s))) => .crd d s
    | .inr (.inr (.inr j)) => .amx j
  invFun
    | .bar d => .inl d
    | .rcv d h s => .inr (.inl (d, s, h))
    | .crd d s => .inr (.inr (.inl (d, s)))
    | .amx j => .inr (.inr (.inr j))
  left_inv := by rintro (_ | ⟨_, _, _⟩ | ⟨_, _⟩ | _) <;> rfl
  right_inv := by rintro (_ | _ | _ | _) <;> rfl
instance : Fintype Item := Fintype.ofEquiv ItemSum itemEquiv

theorem items_eq (P : Item → sProp 𝕄) : bigSep Finset.univ P
    = iprop(both (fun d => P (.bar d)) ∗ hops (fun d h s => P (.rcv d h s)) ∗ strips (fun d s => P (.crd d s)) ∗ three (fun j => P (.amx j))) := by
  rw [bigSep_univ_equiv itemEquiv]
  simp only [bigSep_univ_sum]
  rw [← hops_eq, ← pairs_eq, ← both_eq, ← three_eq]
  rfl

theorem creds (c : Dev nD) : ∀ l : List Item, l.Nodup →
    (Pipeline.launchCred (fun d => owe d l) c : sProp 𝕄) ⊢ bigSep l.toFinset (fun x => crdt c x.cell x.ix)
  | [], _ => by
    show Pipeline.launchCred (fun _ => 0) c ⊢ _
    rw [Pipeline.launchCred_zero, List.toFinset_nil, bigSep_empty]
    exact .rfl
  | x :: l, h => by
    have h' := List.nodup_cons.mp h
    show Pipeline.launchCred (fun d => owe d l + x.tally d) c ⊢ _
    have e : (bigSep (x :: l).toFinset fun x => crdt c x.cell x.ix : sProp 𝕄) = iprop(crdt c x.cell x.ix ∗ bigSep l.toFinset fun x => crdt c x.cell x.ix) := by
      rw [List.toFinset_cons, bigSep_insert (fun hx => h'.1 (List.mem_toFinset.mp hx))]; rfl
    rw [Pipeline.launchCred_add, e]
    iintro ⟨H, T⟩
    isplitl [T]
    · iapply (show Pipeline.launchCred (fun d => x.tally d) c ⊢ (crdt c x.cell x.ix : sProp 𝕄) from
        Pipeline.launchCred_tallyAt (loc x.cell) x.dev x.inv x.dev_inv x.inv_dev x.ix (amt x.cell) c)
      iexact T
    · iapply (creds c l h'.2); iexact H

theorem owed_all : owed.toFinset = Finset.univ := by decide
theorem owed_nodup : owed.Nodup := by decide

theorem creds_owed (c : Dev nD) : (Pipeline.launchCred (fun d => owe d owed) c : sProp 𝕄)
    ⊢ iprop(both (fun _ => crdt c .bar 0) ∗ hops (fun d h s => crdt c (.rcv d h s) 0) ∗ strips (fun d s => crdt c (.crd d) s.val)
      ∗ three (fun j => crdt c (.rcvA j) 0)) := by
  have h := creds (F := F) c owed owed_nodup
  rw [owed_all, items_eq] at h
  exact h

end Cert.KernelIdeal.Body

end
-- ==== Proof.Launch.lean ====
/-
  The launch: what a device starts and ends the body with, and the run of the four devices.
-/
module

public import proofs.«01_k».proof.Proof.Deal
public import Idealize.ShloMosaic.Lib.Pipeline.CollectiveSegs

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CellK → ℕ) (I : Key → ℕ)

variable (ρ : Dev nD → PrngReg)

abbrev s₀ : MemSt nD τ sig (Elt F) := ⟨m, fun _ => 0, ρ⟩

/-! ## The assertions around the body -/

/-- What a device starts the body with. -/
def Φ₀ (c : Dev nD) : sProp 𝕄 := iprop(∃ K I, ctx m K I ∗ Start0 m c ∗ Start1 c ∗ Start2 c ∗ all4 (restX m c))
/-- What it ends the body with. -/
def Φ₁ (c : Dev nD) : sProp 𝕄 := iprop(Final m c ∗ Dones c ∗ all4 (restX m c))

/-- The arguments and the result, the latter at `V`. -/
def arrays (c : Dev nD) (V : FVec F S1024x2048 .f32) : sProp 𝕄 :=
  iprop((((c : Thread nD τ).loc main_arg0) ↦{fullShare} A0 m c) ∗ (((c : Thread nD τ).loc main_arg1) ↦{fullShare} A1 m c)
    ∗ (((c : Thread nD τ).loc main_v1) ↦{fullShare} (V : Buf (Elt F) ((c : Thread nD τ).loc main_v1))))
/-- What the launch gives a device, its scoped buffers apart. -/
def X (c : Dev nD) : sProp 𝕄 := iprop((∃ K I, ctx m K I) ∗ ghost c ∗ Pipeline.launchCred (fun d => owe d owed) c
  ∗ ∃ V : FVec F S1024x2048 .f32, arrays m c V)

theorem hop_intro (c : Dev nD) (h : Fin 3) :
    iprop(strips (fun d s => posn c (.snd d h s)) ∗ strips (fun d s => posn c (.rcv d h s)) ∗ strips (fun d s => tok c (.snd d h s) 0)
      ∗ strips (fun d s => tok (tow d c) (.rcv d h s) 0) ∗ strips (fun d s => crdt c (.rcv d h s) 0))
      ⊢ (all4 (fun s => both (fun d => Hop c d h s)) : sProp 𝕄) := by
  rw [← strips_sep, ← strips_sep, ← strips_sep, ← strips_sep]
  exact .rfl
theorem twice_intro (c : Dev nD) :
    iprop(strips (fun d s => tok (tow (!d) c) (.crd d) s.val) ∗ strips (fun d s => crdt c (.crd d) s.val) ∗ strips (fun d s => readerAt ES (c, d, s) 0)
      ∗ strips (fun d s => writeTok ES (tow d c, d, s) 1))
      ⊢ (all4 (fun s => both (fun d => Twice c d s)) : sProp 𝕄) := by
  rw [← strips_sep, ← strips_sep, ← strips_sep]
  exact .rfl
theorem cpX_intro (c : Dev nD) : iprop(all4 (fun k => tok c (.xc k) 0) ∗ all4 (srcX m c) ∗ all4 (fun k => any c (xT k))) ⊢ (all4 (CpX m c) : sProp 𝕄) := by
  rw [← all4_sep, ← all4_sep]
  exact .rfl
theorem cpW_intro (c : Dev nD) : iprop(all4 (fun k => tok c (.wc k) 0) ∗ all4 (srcW m c) ∗ all4 (fun k => any c (wH k))) ⊢ (all4 (CpW m c) : sProp 𝕄) := by
  rw [← all4_sep, ← all4_sep]
  exact .rfl
theorem out_intro (c : Dev nD) : iprop(all4 (fun k => posn c (.oc k)) ∗ all4 (fun k => tok c (.oc k) 0) ∗ all4 (fun k => any c (oT k))) ⊢ (all4 (Out c) : sProp 𝕄) := by
  rw [← all4_sep, ← all4_sep]
  exact .rfl
theorem bar_intro (c : Dev nD) : iprop(both (fun d => tok (tow d c) .bar (duty d)) ∗ both (fun _ => crdt c .bar 0)) ⊢ (both (Bar c) : sProp 𝕄) := by
  rw [← both_sep]
  exact .rfl
theorem strips_pairs (P : Bool → Fin 4 → sProp 𝕄) : (bigSep Finset.univ fun x : Bool × Fin 4 => P x.1 x.2) ⊢ strips P := Entails.of_eq (pairs_eq P)

/-- A device's ghosts and buffers, regrouped for the body. -/
theorem start_intro (c : Dev nD) : iprop(X m c ∗ Pipeline.scopedRest cfg0.spec c) ⊢ (Φ₀ m c : sProp 𝕄) := by
  rw [scopedRest0_eq, ← any_whole, ← any_whole, ← any_whole, ← any_whole, ← any_whole, ← any_whole]
  unfold X ghost arrays Φ₀
  rw [cells_eq, toks_eq]
  iintro ⟨⟨⟨%K, %I, #C⟩, ⟨⟨PB, PS, PR, PC, PA, PV, PX, PW, PO⟩, ⟨TB, TS, TR, TC, TA, TV, TX, TW, TO⟩, RD, WR⟩, CR, ⟨%V, H0, H1, HV⟩⟩, BX, BW, BY, BR, BL, BA⟩
  ihave CR := (creds_owed c) $$ CR
  icases CR with ⟨CB, CR, CC, CA⟩
  unfold hops three
  icases PS with ⟨PS0, PS1, PS2⟩
  icases PR with ⟨PR0, PR1, PR2⟩
  icases TS with ⟨TS0, TS1, TS2⟩
  icases TR with ⟨TR0, TR1, TR2⟩
  icases CR with ⟨CR0, CR1, CR2⟩
  icases PA with ⟨PA0, PA1, PA2⟩
  icases PV with ⟨PV0, PV1, PV2⟩
  icases TA with ⟨TA0, TA1, TA2⟩
  icases TV with ⟨TV0, TV1, TV2⟩
  icases CA with ⟨CA0, CA1, CA2⟩
  ihave RD := (strips_pairs fun d s => readerAt ES (c, d, s) 0) $$ RD
  ihave WR := (strips_pairs fun d s => writeTok ES (tow d c, d, s) 1) $$ WR
  ihave BX := (x_split c) $$ BX
  ihave BW := (w_split c) $$ BW
  ihave BY := (y_split c) $$ BY
  ihave BA := (a_split c) $$ BA
  ihave BA := (show all4 (fun k => any c (aT k)) ⊢ (iprop(any c (aT 0) ∗ any c (aT 1) ∗ any c (aT 2) ∗ any c (aT 3)) : sProp 𝕄) from .rfl) $$ BA
  icases BA with ⟨BA0, BA1, BA2, BA3⟩
  ihave BR := (show any c (Memref.whole cc0_scratch3) ⊢ (Ring c true : sProp 𝕄) from c_split c true) $$ BR
  ihave BL := (show any c (Memref.whole cc0_scratch4) ⊢ (Ring c false : sProp 𝕄) from c_split c false) $$ BL
  unfold Ring
  icases BR with ⟨BR0, BR1⟩
  icases BL with ⟨BL0, BL1⟩
  ihave S := (arg0_split m c) $$ H0
  icases S with ⟨SX, SR⟩
  ihave SW := (Entails.of_eq (arg1_eq m c)) $$ H1
  ihave SO := (show (((c : Thread nD τ).loc main_v1) ↦{fullShare} (V : Buf (Elt F) ((c : Thread nD τ).loc main_v1)) : sProp 𝕄) ⊢ any c oA from by
    rw [any_whole]; iintro H; iexists V; iexact H) $$ HV
  ihave SO := (o_split c) $$ SO
  ihave R0 := (Entails.of_eq (all4_both (fun d s => any c (cT d 0 s)))) $$ [BR0 BL0]
  · unfold both; isplitl [BR0] <;> iassumption
  ihave R1 := (Entails.of_eq (all4_both (fun d s => any c (cT d 1 s)))) $$ [BR1 BL1]
  · unfold both; isplitl [BR1] <;> iassumption
  ihave Y := (bar_close c) $$ [R1 BY BA1 BA2 BA3]
  · isplitl [R1]; · iexact R1
    isplitl [BY]; · iexact BY
    isplitl [BA1]; · iexact BA1
    isplitl [BA2] <;> iassumption
  iexists K
  iexists I
  isplitr; · iexact C
  unfold Start0 Start1 Start2
  isplitl [TX SX BX TW SW BW PX PW PB TB CB Y]
  · isplitl [TX SX BX]
    · iapply (cpX_intro m c)
      isplitl [TX]; · iexact TX
      isplitl [SX] <;> iassumption
    isplitl [TW SW BW]
    · iapply (cpW_intro m c)
      isplitl [TW]; · iexact TW
      isplitl [SW] <;> iassumption
    isplitl [PX]; · iexact PX
    isplitl [PW]; · iexact PW
    isplitl [PB]; · iexact PB
    isplitl [TB CB]
    · iapply (bar_intro c)
      isplitl [TB] <;> iassumption
    iexact Y
  isplitl [R0 PS0 PS1 PS2 PR0 PR1 PR2 TS0 TS1 TS2 TR0 TR1 TR2 CR0 CR1 CR2 TC CC RD WR PC]
  · isplitl [R0]; · iexact R0
    isplitl [PS0 PR0 TS0 TR0 CR0]
    · iapply (hop_intro c 0)
      isplitl [PS0]; · iexact PS0
      isplitl [PR0]; · iexact PR0
      isplitl [TS0]; · iexact TS0
      isplitl [TR0] <;> iassumption
    isplitl [PS1 PR1 TS1 TR1 CR1]
    · iapply (hop_intro c 1)
      isplitl [PS1]; · iexact PS1
      isplitl [PR1]; · iexact PR1
      isplitl [TS1]; · iexact TS1
      isplitl [TR1] <;> iassumption
    isplitl [PS2 PR2 TS2 TR2 CR2]
    · iapply (hop_intro c 2)
      isplitl [PS2]; · iexact PS2
      isplitl [PR2]; · iexact PR2
      isplitl [TS2]; · iexact TS2
      isplitl [TR2] <;> iassumption
    isplitl [TC CC RD WR]
    · iapply (twice_intro c)
      isplitl [TC]; · iexact TC
      isplitl [CC]; · iexact CC
      isplitl [RD] <;> iassumption
    iexact PC
  isplitr [SR]
  · unfold Amx
    isplitl [BA0]; · iexact BA0
    isplitl [PA0 PV0 TA0 TV0 CA0]
    · isplitl [PA0]; · iexact PA0
      isplitl [PV0]; · iexact PV0
      isplitl [TA0]; · iexact TA0
      isplitl [TV0] <;> iassumption
    isplitl [PA1 PV1 TA1 TV1 CA1]
    · isplitl [PA1]; · iexact PA1
      isplitl [PV1]; · iexact PV1
      isplitl [TA1]; · iexact TA1
      isplitl [TV1] <;> iassumption
    isplitl [PA2 PV2 TA2 TV2 CA2]
    · isplitl [PA2]; · iexact PA2
      isplitl [PV2]; · iexact PV2
      isplitl [TA2]; · iexact TA2
      isplitl [TV2] <;> iassumption
    iapply (out_intro c)
    isplitl [PO]; · iexact PO
    isplitl [TO] <;> iassumption
  iexact SR

/-! ## At the end -/

theorem shut_all (c : Dev nD) (h : Fin 3) : all4 (fun s => both (fun d => Shut c d h s))
    ⊢ (iprop(strips (fun d s => done c (.snd d h s)) ∗ strips (fun d s => done c (.rcv d h s))) : sProp 𝕄) := by
  rw [← strips_sep]
  exact .rfl
theorem dones_all (c : Dev nD) : Dones c ⊢ (bigSep Finset.univ fun k : CellK => done c k : sProp 𝕄) := by
  rw [cells_eq]
  unfold Dones DoneA hops three
  iintro ⟨DB, ⟨S0, S1, S2⟩, DC, ⟨⟨A0, B0⟩, ⟨A1, B1⟩, ⟨A2, B2⟩⟩, DX, DW, DO⟩
  ihave S0 := (shut_all c 0) $$ S0
  ihave S1 := (shut_all c 1) $$ S1
  ihave S2 := (shut_all c 2) $$ S2
  icases S0 with ⟨S0, R0⟩
  icases S1 with ⟨S1, R1⟩
  icases S2 with ⟨S2, R2⟩
  isplitl [DB]; · iexact DB
  isplitl [S0 S1 S2]
  · isplitl [S0]; · iexact S0
    isplitl [S1] <;> iassumption
  isplitl [R0 R1 R2]
  · isplitl [R0]; · iexact R0
    isplitl [R1] <;> iassumption
  isplitl [DC]; · iexact DC
  isplitl [A0 A1 A2]
  · isplitl [A0]; · iexact A0
    isplitl [A1] <;> iassumption
  isplitl [B0 B1 B2]
  · isplitl [B0]; · iexact B0
    isplitl [B1] <;> iassumption
  isplitl [DX]; · iexact DX
  isplitl [DW] <;> iassumption

def Y (c : Dev nD) : sProp 𝕄 := iprop(unscopedSems0 c ∗ arrays m c (outAll m c))

theorem wq_any (c : Dev nD) (j : Fin 4) : wq m c j ⊢ (any c (wH j) : sProp 𝕄) := by
  unfold wq any slot
  iintro H; iexists _; iexact H

theorem final_exit (c : Dev nD) : Φ₁ m c ⊢ (iprop(Y m c ∗ Pipeline.ownSems0 osem c ∗ Pipeline.scopedRest cfg0.spec c) : sProp 𝕄) := by
  rw [scopedRest0_eq, ← any_whole, ← any_whole, ← any_whole, ← any_whole, ← any_whole, ← any_whole]
  unfold Φ₁ Final Y arrays
  iintro ⟨⟨HX, SX, HW, SW, C0, C1, HY, HA, HO⟩, D, SR⟩
  ihave D := (dones_all c) $$ D
  ihave D := (Entails.of_eq (sems_eq c)) $$ D
  icases D with ⟨DU, DO⟩
  ihave HW := (all4_mono (wq_any m c)) $$ HW
  ihave C0 := (Entails.of_eq (all4_both (fun d s => any c (cT d 0 s))).symm) $$ C0
  ihave C1 := (Entails.of_eq (all4_both (fun d s => any c (cT d 1 s))).symm) $$ C1
  unfold both
  icases C0 with ⟨R0, L0⟩
  icases C1 with ⟨R1, L1⟩
  isplitl [DU SX SR SW HO]
  · isplitl [DU]; · iexact DU
    isplitl [SX SR]
    · iapply (arg0_join m c)
      isplitl [SX] <;> iassumption
    isplitl [SW]
    · iapply (Entails.of_eq (arg1_eq m c).symm); iexact SW
    iapply (o_join m c); iexact HO
  isplitl [DO]; · iexact DO
  isplitl [HX]; · iapply (x_join c); iexact HX
  isplitl [HW]; · iapply (w_join c); iexact HW
  isplitl [HY]; · iapply (yH_join c); iexact HY
  isplitl [R0 R1]
  · iapply (c_join c true)
    unfold Ring
    isplitl [R0] <;> iassumption
  isplitl [L0 L1]
  · iapply (c_join c false)
    unfold Ring
    isplitl [L0] <;> iassumption
  iapply (a_join c); iexact HA

/-! ## The launch -/

def dats (_ : Fin 1) (c : Dev nD) : Pipeline.Dat τ (Elt F) ℕ ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owe c owed
    | ⟨_ + 1, _⟩ => 0

set_option maxRecDepth 20000 in
theorem body_obligation (c : Dev nD) : Pipeline.BodyObligation (dats (F := F) m 0 c) (defs₀ (F := F)) 𝒱₀ 0 Set.univ := fun t => by
  rw [fin_N0 t]
  show iprop(Φ₀ m c ∗ (dats m 0 c).owesAt 0 t0_0.castSucc ∗ _) ⊢ WP c (bodyAt0 t0_0) fun _ => iprop(Φ₁ m c ∗ (dats m 0 c).owesAt 0 t0_0.succ ∗ _)
  rw [body_eq]
  simp only [Prog.lift, Prog.bind_op, Prog.bind_ret, wp_deviceId]
  rw [dev1_eq, dev2_eq, dev37_eq]
  unfold Φ₀ Pipeline.Dat.owesAt Pipeline.owesWithin
  iintro ⟨⟨%K, %I, #C, S0, S1, S2, SR⟩, ⟨%W, -, O⟩, HB⟩
  iapply (wp_whole m K I c _) $$ [S0 S1 S2 O]
  · isplitr; · iexact C
    isplitl [S0]; · iexact S0
    isplitl [S1]; · iexact S1
    isplitl [S2]; · iexact S2
    unfold ow; iexists W; iexact O
  iintro ⟨O, F, D⟩
  unfold Φ₁ ow
  icases O with ⟨%W', O⟩
  isplitl [F D SR]
  · isplitl [F]; · iexact F
    isplitl [D] <;> iassumption
  isplitl [O]
  · iexists W'
    isplitr; · ipureintro; exact fun _ _ => Or.inl trivial
    iexact O
  iexact HB

theorem waits (c : Dev nD) : (levAts L lv : sProp 𝕄) ⊢ Pipeline.cellsWaits cfgs (dats m) 0 0 c :=
  Pipeline.cellsWaits_intro cfgs (dats m) 0 0 c fun w _ _ => w.elim0

theorem x_intro (c : Dev nD) :
    iprop(Pipeline.unscopedRestP Pipeline.Prefetch.none cfg0.spec c (fun b => m ((c : Thread nD τ).loc b)) ∗ levAts L lv
        ∗ Pipeline.launchCred (fun d => owe d owed) c ∗ prngReg c (ρ c) ∗ G' m c)
      ⊢ (|={Set.univ}=> iprop(X m c ∗ emp) : sProp 𝕄) := by
  have e : (Pipeline.unscopedRestP Pipeline.Prefetch.none cfg0.spec c (fun b => m ((c : Thread nD τ).loc b)) : sProp 𝕄)
      ⊢ iprop((((c : Thread nD τ).loc main_arg0) ↦{fullShare} m ((c : Thread nD τ).loc main_arg0))
        ∗ (((c : Thread nD τ).loc main_arg1) ↦{fullShare} m ((c : Thread nD τ).loc main_arg1))
        ∗ (((c : Thread nD τ).loc main_v1) ↦{fullShare} m ((c : Thread nD τ).loc main_v1))) := by
    rw [Pipeline.unscopedRestP_none, unscopedRest0_eq]
  iintro ⟨HA, #HL, HC, -, HG⟩
  ihave HA := e $$ HA
  imodintro
  unfold X G' shared ctx
  icases HG with ⟨%K, %I, ⟨#H1, #H2, #H3⟩, HG⟩
  isplitl
  · isplitr
    · iexists K; iexists I
      isplitr; · iexact H1
      isplitr; · iexact H2
      isplitr; · iexact H3
      iexact HL
    isplitl [HG]; · iexact HG
    isplitl [HC]; · iexact HC
    iexists (m ((c : Thread nD τ).loc main_v1))
    unfold arrays A0 A1
    iexact HA
  · iempintro

theorem phi0_intro (c : Dev nD) :
    iprop(X m c ∗ Pipeline.prefHeld Pipeline.Prefetch.none c (fun _ => fullShare.right) (fun k => k.elim0) ∗ Pipeline.scopedRest cfg0.spec c)
      ⊢ ((dats m 0 c).Φ 0 : sProp 𝕄) := by
  rw [show (dats m 0 c).Φ 0 = Φ₀ m c from rfl]
  iintro ⟨H, -, HB⟩
  iapply (start_intro m c)
  isplitl [H] <;> iassumption

/-- What the run leaves on a device: the arguments as they were, and the result. -/
def Q (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = (outAll m c : Buf (Elt F) ((c : Thread nD τ).loc main_v1))

theorem y_read (c : Dev nD) (s' : Phys nD τ sig (Elt F)) :
    iprop(Y m c ∗ emp ∗ SI s') ⊢ (|={Set.univ}=> iprop(⌜Q m c s'.mem ∧ ∀ sm : SemLoc sig, sm.isScoped .tc = false → s'.mem.sem ((c.tc : Thread nD τ), sm) = 0⌝ ∗ SI s') : sProp 𝕄) := by
  unfold Y arrays
  iintro ⟨⟨HU, H0, H1, HV⟩, -, HSI⟩
  icombine HSI H0 gives %h0
  icombine HSI H1 gives %h1
  icombine HSI HV gives %hv
  imod (Pipeline.unscopedSems0_read (X := unscopedSems0 c) (c := c) fupd_intro s') $$ [HU HSI] with ⟨%hs, HSI⟩
  · isplitl [HU] <;> iassumption
  imodintro
  isplitr
  · ipureintro
    exact ⟨⟨Buf.eq_of_forall_mem_univ h0, Buf.eq_of_forall_mem_univ h1, Buf.eq_of_forall_mem_univ hv⟩, hs⟩
  iexact HSI

set_option maxRecDepth 20000 in
/-- From any memory with zero counters the four devices end, the arguments as they were, the result as computed and
    every semaphore at zero. -/
theorem run_main : θ_run defs (onTc (τ := τ) (main (F := F))) (s₀ m ρ) (fun r => (∀ c, Q m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun d => owe d owed) (howed₀ := fun _ => rfl) (howedN := fun _ => rfl)
    (L := L) (lv := lv) (hL := L_of_ne) (hwaits := waits m)
    (G := G m) (G' := G' m) (u₀ := u₀) (hu₀ := fund m) (hglob := glob m)
    (hA := fun _ w => w.elim0) (hpf := fun _ k => k.elim0)
    (X := X m) (Y := Y m) (Z := fun _ => iprop(emp))
    (hX := x_intro m ρ) (hin := phi0_intro m) (hout := final_exit m)
    (QY := fun c s => Q m c s ∧ ∀ sm : SemLoc sig, sm.isScoped .tc = false → s.sem ((c.tc : Thread nD τ), sm) = 0)
    (hY := y_read m)
    (hQ := fun _ h hs => ⟨fun c => (h c).2.2.1, sem_eq_zero hs fun c => (h c).2.2.2⟩)

end Cert.KernelIdeal.Body

end
-- ==== Proof.Frames.lean ====
/-
  The frames of the two readings of the kernel, and the run of the reference.
  The kernel's run is proved once, over any float values; each frame is that run with the result dropped.
-/
module

public import proofs.«01_k».proof.Defs
public import proofs.«01_k».proof.Proof.Launch
public import proofs.«01_k».proof.Proof.Gen.Kernel
public import proofs.«01_k».proof.Proof.Gen.ReferenceIdeal.Frame

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The kernel's frame at the ideal values. -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.Body.run_main (F := Ideal) m ρ)

set_option maxRecDepth 20000 in
/-- The kernel's frame at the machine's floats: the two programs have the same text. -/
theorem frame_kernel : Cert.quiescent_Kernel := fun m ρ _ =>
  (θ_run Cert.KernelIdeal.defs _ _).mono (fun _ h => ⟨fun c => ⟨(h.1 c).1, (h.1 c).2.1⟩, h.2⟩)
    (Cert.KernelIdeal.Body.run_main (F := Bits) m ρ)

/-- The reference's frame. -/
theorem frame_reference : Cert.quiescent_ReferenceIdeal := fun m ρ _ => Cert.ReferenceIdeal.Gen.frame m ρ

end Cert.Proof

end
-- ==== Proof.Values.lean ====
/-
  What the kernel computes over the extended reals before it quantises: each device's rows of the product.
-/
module

public import proofs.«01_k».proof.Proof.Geometry
public import Idealize.ShloMosaic.Lib.MatmulPlain
public import Idealize.ShloMosaic.Lib.Layout

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Release

/-! ## The product, entry by entry -/

abbrev BigX : Type := (⟨2, ![4096, 4096]⟩ : Shape).Idx → EReal
abbrev BigW : Type := (⟨2, ![4096, 2048]⟩ : Shape).Idx → EReal

/-- Where place `k` of block `e` is among the contracted places, and row `r` of block `e` among the rows. -/
def inBlock (e : Fin 4) (k : Fin 1024) : Fin 4096 := ⟨e.val * 1024 + k.val, by omega⟩
/-- Where column `l` of strip `q` is among the columns. -/
def inCols (q : Fin 8) (l : Fin 256) : Fin 2048 := ⟨256 * q.val + l.val, by omega⟩

/-- An entry of the product, and the part of it that one device's blocks give. -/
def entry (X : BigX) (W : BigW) (r : Fin 4096) (l : Fin 2048) : EReal := ∑ k : Fin 4096, X (ix2 r k) * W (ix2 k l)
def share4 (X : BigX) (W : BigW) (e : Fin 4) (r : Fin 4096) (l : Fin 2048) : EReal :=
  ∑ k : Fin 1024, X (ix2 r (inBlock e k)) * W (ix2 (inBlock e k) l)

/-- The contraction runs over the four devices' blocks. -/
theorem entry_eq (X : BigX) (W : BigW) (r : Fin 4096) (l : Fin 2048) : entry X W r l = ∑ e : Fin 4, share4 X W e r l := by
  unfold entry share4
  rw [← Fintype.sum_prod_type' (f := fun (e : Fin 4) (k : Fin 1024) => X (ix2 r (inBlock e k)) * W (ix2 (inBlock e k) l)),
    ← Equiv.sum_comp (finProdFinEquiv (m := 4) (n := 1024)) (fun k : Fin 4096 => X (ix2 r k) * W (ix2 k l))]
  refine Finset.sum_congr rfl fun p _ => ?_
  have e : (finProdFinEquiv (m := 4) (n := 1024) p : Fin 4096) = inBlock p.1 p.2 :=
    Fin.ext (by show p.2.val + 1024 * p.1.val = p.1.val * 1024 + p.2.val; omega)
  rw [e]

/-- The chunk of rows in a slot. -/
def chunkOf (c : Dev nD) : Fin 4 → Dev nD
  | 0 => prv c
  | 1 => nxt c
  | 2 => dia c
  | 3 => c

theorem xOff_rows : ∀ (c : Dev nD) (k : Fin 4), xOff c k 0 = (chunkOf c k).val * 1024 ∧ xOff c k 1 = 0 := by decide +kernel

variable (m : (ℓ : Loc nD τ sig) → Buf (Elt Ideal) ℓ) (X : BigX) (W : BigW)

/-- The devices hold their blocks of the two whole arrays. -/
def Held : Prop := ∀ c : Dev nD, A0 m c = Layout.block ⟨2, ![4096, 1024]⟩ ⟨2, ![4096, 4096]⟩ 1 4 c X
  ∧ A1 m c = Layout.block ⟨2, ![1024, 2048]⟩ ⟨2, ![4096, 2048]⟩ 0 4 c W

variable {m X W}

theorem chunk_apply (h : Held m X W) (c : Dev nD) (k : Fin 4) (r k' : Fin 1024) :
    chunk m c k (ix2 r k') = X (ix2 (inBlock (chunkOf c k) r) (inBlock c k')) := by
  obtain ⟨h0, h1⟩ := xOff_rows c k
  unfold chunk
  rw [(h c).1]
  refine congrArg X (funext fun a => Fin.ext ?_)
  match a with
  | ⟨0, _⟩ => show xOff c k 0 + 1 * r.val = (chunkOf c k).val * 1024 + r.val; omega
  | ⟨1, _⟩ => show c.val * 1024 + (xOff c k 1 + 1 * k'.val) = c.val * 1024 + k'.val; omega

theorem strip_apply (h : Held m X W) (c : Dev nD) (q : Fin 8) (k : Fin 1024) (l : Fin 256) :
    strip m c q (ix2 k l) = W (ix2 (inBlock c k) (inCols q l)) := by
  unfold strip
  rw [(h c).2]
  refine congrArg W (funext fun a => Fin.ext ?_)
  match a with
  | ⟨0, _⟩ => show c.val * 1024 + (0 + 1 * k.val) = c.val * 1024 + k.val; omega
  | ⟨1, _⟩ => show 256 * q.val + 1 * l.val = 256 * q.val + l.val; omega

/-- A device's product of a chunk and a strip is its part of the entries there. -/
theorem prod_apply (h : Held m X W) (c : Dev nD) (k : Fin 4) (q : Fin 8) (r : Fin 1024) (l : Fin 256) :
    prod m c k q (ix2 r l) = share4 X W c (inBlock (chunkOf c k) r) (inCols q l) := by
  unfold prod
  refine (Ideal.matmul_plain_apply (M := 1024) (K := 1024) (N := 256) none _ _ _ r l).trans ?_
  rw [show constant (F := Ideal) S1024x256 .f32 0x00000000#32 (ix2 r l) = 0 from Ideal.ofBits_zero_f32, zero_add]
  exact Finset.sum_congr rfl fun k' _ => by rw [chunk_apply h, strip_apply h]

theorem round_all : ∀ (d : Bool) (c : Dev nD), (Finset.univ : Finset (Dev nD)) = {tow d (tow d (tow d c)), tow d (tow d c), tow d c, c}
    ∧ tow d (tow d (tow d c)) ∉ ({tow d (tow d c), tow d c, c} : Finset (Dev nD)) ∧ tow d (tow d c) ∉ ({tow d c, c} : Finset (Dev nD))
    ∧ tow d c ∉ ({c} : Finset (Dev nD)) := by decide

/-- Once round either ring every device has been met once. -/
theorem ring_sum (f : Dev nD → EReal) (d : Bool) (c : Dev nD) :
    f (tow d (tow d (tow d c))) + f (tow d (tow d c)) + f (tow d c) + f c = ∑ e : Dev nD, f e := by
  obtain ⟨h, h3, h2, h1⟩ := round_all d c
  rw [h, Finset.sum_insert h3, Finset.sum_insert h2, Finset.sum_insert h1, Finset.sum_singleton, add_assoc, add_assoc]

/-- The accumulator a ring ends with is the product's entries in that chunk of rows and that strip. -/
theorem acc_apply (h : Held m X W) (d : Bool) (s : Fin 4) (c : Dev nD) (r : Fin 1024) (l : Fin 256) :
    acc m d s 3 c (ix2 r l) = entry X W (inBlock c r) (inCols (qOf d s) l) := by
  rw [entry_eq, ← ring_sum (fun e => share4 X W e (inBlock c r) (inCols (qOf d s) l)) (!d) c]
  have hs : ∀ (d : Bool) (c : Dev nD), chunkOf (tow (!d) (tow (!d) (tow (!d) c))) (slotOf d 0) = c
      ∧ chunkOf (tow (!d) (tow (!d) c)) (slotOf d 1) = c ∧ chunkOf (tow (!d) c) (slotOf d 2) = c ∧ chunkOf c (slotOf d 3) = c := by decide
  obtain ⟨h0, h1, h2, h3⟩ := hs d c
  have e : acc m d s 3 c (ix2 r l) = prod m (tow (!d) (tow (!d) (tow (!d) c))) (slotOf d 0) (qOf d s) (ix2 r l)
      + prod m (tow (!d) (tow (!d) c)) (slotOf d 1) (qOf d s) (ix2 r l) + prod m (tow (!d) c) (slotOf d 2) (qOf d s) (ix2 r l)
      + prod m c (slotOf d 3) (qOf d s) (ix2 r l) := by
    rw [acc_three, acc_two, acc_one, acc_zero]; rfl
  rw [e, prod_apply h, prod_apply h, prod_apply h, prod_apply h, h0, h1, h2, h3]

/-- Before it is quantised, a device's result is its rows of the product. -/
theorem yAll_apply (h : Held m X W) (c : Dev nD) (r : Fin 1024) (l : Fin 2048) : yAll m c (ix2 r l) = entry X W (inBlock c r) l := by
  have hq : ∃ d s, qOf d s = qAt (ix2 r l) := by
    generalize qAt (ix2 r l) = q
    revert q; decide
  obtain ⟨d, s, e⟩ := hq
  have hi : inStrip (ix2 r l) = ix2 r ⟨l.val % 256, Nat.mod_lt _ (by decide)⟩ := funext fun a => match a with
    | 0 => rfl
    | 1 => rfl
  unfold yAll
  rw [← e, ← yPiece_eq, ← yPiece_qOf, hi, acc_apply h]
  refine congrArg (entry X W _) (Fin.ext ?_)
  rw [e]
  show 256 * (l.val / 256) + l.val % 256 = l.val
  omega

end Cert.KernelIdeal.Body

end
-- ==== Proof.Largest.lean ====
/-
  The scale over the extended reals: the largest magnitude of the whole product, over 448, on every device.
-/
module

public import proofs.«01_k».proof.Proof.Values

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Release

variable {m : (ℓ : Loc nD τ sig) → Buf (Elt Ideal) ℓ} {X : BigX} {W : BigW}

/-! ## The largest magnitude -/

/-- The largest of all the elements of an array: what it is at most. -/
theorem largest_le {s s' t : Shape} {axes : List (Fin s'.rank)} (v : FVec Ideal s .f32) (hc : s.ShapeCasts s') (hr : s'.Reduces axes t)
    (ht : ∀ b, t.size b = 1) (hφ : FKind.Formats .f32) (hacc : (0xFF800000#32 : BitVec 32) = FKind.maximumf.neutral .f32 hφ) (j : t.Idx) (b : EReal) :
    multiReduction .maximumf axes t (shapeCast s' v hc) 0xFF800000#32 hr hφ hacc j ≤ b ↔ ∀ i, v i ≤ b := by
  have hbot : FloatOps.ofBits (F := Ideal) .f32 0xFF800000#32 = (⊥ : EReal) := by simp [Ideal.ofBits, Ideal.ieee]
  rw [multiReduction_maximumf_eq_fold, Finset.filter_true_of_mem fun i _ => funext fun b => Fin.ext (by
    have := (hr.drop i b).isLt; have := (j b).isLt; have := ht b; omega)]
  refine (Finset.fold_max_le (β := EReal) b).trans ?_
  rw [hbot]
  refine ⟨fun h i => ?_, fun h => ⟨bot_le, fun i _ => h _⟩⟩
  have := h.2 ((Shape.reshapeEquiv hc).symm i) (Finset.mem_univ _)
  simpa [shapeCast] using this

theorem amx_le (v : FVec Ideal S1024x256 .f32) (b : EReal) : amx v ≤ b ↔ ∀ i, absf v i ≤ b :=
  largest_le (absf v) shapeCasts_S1024x256_S1x1024x256 reduces_S1x1024x256_S1 (by decide) (.inl rfl) rfl
    (Shape.reshapeEquiv shapeCasts_S1_S1x1x1 fun a => ⟨(![0, 0, 0] : Fin 3 → Nat) a, inpos_S1x1x1_p0_0_0 a⟩) b

theorem zero_le_absf {s : Shape} (v : FVec Ideal s .f32) (i : s.Idx) : (0 : EReal) ≤ absf v i := by
  show (0 : EReal) ≤ max (v i) (-(v i))
  rcases le_total (0 : EReal) (v i) with h | h
  · exact le_max_of_le_left h
  · exact le_max_of_le_right (EReal.neg_nonneg.2 h)

theorem zero32_eq : (zero32 : Ideal .f32) = (0 : EReal) := Ideal.ofBits_zero_f32

theorem larger_le (x y : Ideal .f32) (b : EReal) : (Scalar.maximumf x y : EReal) ≤ b ↔ (x : EReal) ≤ b ∧ (y : EReal) ≤ b := by
  rw [Ideal.scalar_maximumf_def]
  exact max_le_iff

theorem amxStep_le (a : Ideal .f32) (p : FVec Ideal S1024x256 .f32 × FVec Ideal S1024x256 .f32) (b : EReal) :
    (amxStep a p : EReal) ≤ b ↔ (a : EReal) ≤ b ∧ (amx p.1 : EReal) ≤ b ∧ (amx p.2 : EReal) ≤ b := by
  unfold amxStep
  rw [larger_le, larger_le]

theorem amxUpto_le (c : Dev nD) (b : EReal) (n : ℕ) :
    amxUpto m c n ≤ b ↔ (0 : EReal) ≤ b ∧ ∀ k < n, ∀ d i, absf (acc m d (Fin.ofNat 4 k) 3 c) i ≤ b := by
  induction n with
  | zero =>
    rw [amxUpto, zero32_eq]
    exact ⟨fun h => ⟨h, fun k hk => absurd hk (Nat.not_lt_zero k)⟩, fun h => h.1⟩
  | succ n ih =>
    rw [amxUpto, amxStep_le, ih, amx_le, amx_le]
    constructor
    · rintro ⟨⟨h0, h⟩, ht, hf⟩
      refine ⟨h0, fun k hk d i => ?_⟩
      rcases Nat.lt_succ_iff_lt_or_eq.1 hk with hk | rfl
      · exact h k hk d i
      · cases d
        · exact hf i
        · exact ht i
    · rintro ⟨h0, h⟩
      exact ⟨⟨h0, fun k hk => h k (by omega)⟩, h n (by omega) true, h n (by omega) false⟩

/-- The largest magnitude of the product's entries in a chunk of rows, over nought. -/
theorem amxLoc_le (h : Held m X W) (c : Dev nD) (b : EReal) :
    amxLoc m c ≤ b ↔ (0 : EReal) ≤ b ∧ ∀ r l, max (entry X W (inBlock c r) l) (-(entry X W (inBlock c r) l)) ≤ b := by
  unfold amxLoc
  rw [amxUpto_le]
  refine and_congr_right fun _ => ⟨fun H r l => ?_, fun H k hk d i => ?_⟩
  · obtain ⟨d, s, e⟩ : ∃ d s, (qOf d s).val = l.val / 256 := by
      have hq : ∀ q : Fin 8, ∃ d s, qOf d s = q := by decide
      obtain ⟨d, s, e⟩ := hq ⟨l.val / 256, by omega⟩
      exact ⟨d, s, by rw [e]⟩
    have := H s.val s.isLt d (ix2 r ⟨l.val % 256, Nat.mod_lt _ (by decide)⟩)
    rw [show Fin.ofNat 4 s.val = s from Fin.ext (Nat.mod_eq_of_lt s.isLt)] at this
    have this : max (acc m d s 3 c _) (-(acc m d s 3 c _)) ≤ b := this
    rw [acc_apply h] at this
    rwa [show inCols (qOf d s) ⟨l.val % 256, Nat.mod_lt _ (by decide)⟩ = l from Fin.ext (by
      show 256 * (qOf d s).val + l.val % 256 = l.val; omega)] at this
  · obtain ⟨r, l, rfl⟩ : ∃ r l, i = ix2 r l := ⟨_, _, eq_ix2 i⟩
    show max (acc m d _ 3 c _) (-(acc m d _ 3 c _)) ≤ b
    rw [acc_apply h]
    exact H _ _

/-- The scale, on every device, is the largest magnitude of the whole product over 448. -/
theorem scale_eq (h : Held m X W) (c : Dev nD) (M : EReal)
    (hM : ∀ b, M ≤ b ↔ ∀ r l, max (entry X W r l) (-(entry X W r l)) ≤ b) :
    scale m c = Ideal.div M (Ideal.ofBits .f32 0x43E00000#32) := by
  have e : (Scalar.maximumf (Scalar.maximumf (Scalar.maximumf (amxLoc m c) (amxLoc m (prv c))) (amxLoc m (nxt c))) (amxLoc m (dia c)) : EReal) = M := by
    refine eq_of_forall_ge_iff fun b => ?_
    rw [larger_le, larger_le, larger_le, amxLoc_le h, amxLoc_le h, amxLoc_le h, amxLoc_le h, hM]
    constructor
    · rintro ⟨⟨⟨⟨-, h0⟩, -, h1⟩, -, h2⟩, -, h3⟩ r l
      have hr : ∀ (c e : Dev nD), e = c ∨ e = prv c ∨ e = nxt c ∨ e = dia c := by decide
      obtain ⟨e, k, rfl⟩ : ∃ (e : Fin 4) (k : Fin 1024), inBlock e k = r :=
        ⟨⟨r.val / 1024, by omega⟩, ⟨r.val % 1024, Nat.mod_lt _ (by decide)⟩,
          Fin.ext (by show r.val / 1024 * 1024 + r.val % 1024 = r.val; omega)⟩
      rcases hr c e with rfl | rfl | rfl | rfl
      · exact h0 _ _
      · exact h1 _ _
      · exact h2 _ _
      · exact h3 _ _
    · intro H
      have h0 : (0 : EReal) ≤ b := le_trans (zero_le_absf (s := S1024x256) (fun _ => entry X W 0 0) (ix2 0 0)) (H 0 0)
      exact ⟨⟨⟨⟨h0, fun _ _ => H _ _⟩, h0, fun _ _ => H _ _⟩, h0, fun _ _ => H _ _⟩, h0, fun _ _ => H _ _⟩
  unfold scale scaleOf
  rw [e]
  exact Ideal.scalar_divf_def _ _

end Cert.KernelIdeal.Body

end
-- ==== Proof.Reference.lean ====
/-
  The reference's result over the extended reals, entry by entry.
-/
module

public import proofs.«01_k».proof.Proof.Largest
public import proofs.«01_k».proof.Proof.Gen.ReferenceIdeal.Value

@[expose] public section

noncomputable section

namespace Cert.ReferenceIdeal.Body

open Cert.ReferenceIdeal Cert.ReferenceIdeal.Gen
open Idealize.ShloMosaic Idealize.ShloMosaic.ValueIdx Idealize.SL.Sem
open Cert.KernelIdeal.Body (BigX BigW Held entry inBlock)

/-- An element, clipped and rounded at a scale and scaled back. -/
def quantised (s y : Ideal .f32) : Ideal .f32 :=
  FloatOps.mulf (FloatOps.extf .f32 bitsLt_fp8e4m3_f32 (FloatOps.truncf .fp8e4m3 bitsLt_fp8e4m3_f32
    (FloatOps.minimumf (Scalar.ofBits .f32 0x43E00000#32) (FloatOps.maximumf (Scalar.ofBits .f32 0xC3E00000#32) (FloatOps.divf y s))))) s

/-- The reference's product, and the largest magnitude in it. -/
def product (X : FVec Ideal S4096x4096 .f32) (W : FVec Ideal S4096x2048 .f32) : FVec Ideal S4096x2048 .f32 :=
  matmul dot_S4096x4096_S4096x2048_S4096x2048_1_0_0_1_n_n none X W (constant S4096x2048 .f32 0x00000000#32)
def largest (v : FVec Ideal S4096x2048 .f32) : Ideal .f32 :=
  extractAt ![0, 0, 0] (shapeCast S1x1x1 (multiReduction .maximumf [1, 2] S1
    (shapeCast S1x4096x2048 (absf v) shapeCasts_S4096x2048_S1x4096x2048) 0xFF800000#32 reduces_S1x4096x2048_S1 (.inl rfl) rfl)
    shapeCasts_S1_S1x1x1) inpos_S1x1x1_p0_0_0

theorem pay_apply (X : FVec Ideal S4096x4096 .f32) (W : FVec Ideal S4096x2048 .f32) (j : S4096x2048.Idx) :
    k0_pay1 X W j = quantised (Scalar.divf (largest (product X W)) (Scalar.ofBits .f32 0x43E00000#32)) (product X W j) := by
  unfold k0_pay1
  rfl

theorem product_apply (X : BigX) (W : BigW) (r : Fin 4096) (l : Fin 2048) : product X W (ix2 r l) = entry X W r l := by
  unfold product entry
  refine (Ideal.matmul_plain_apply (M := 4096) (K := 4096) (N := 2048) none _ _ _ r l).trans ?_
  rw [show constant (F := Ideal) S4096x2048 .f32 0x00000000#32 (ix2 r l) = 0 from Ideal.ofBits_zero_f32, zero_add]

theorem largest_le (v : FVec Ideal S4096x2048 .f32) (b : EReal) : (largest v : EReal) ≤ b ↔ ∀ i, absf v i ≤ b :=
  Cert.KernelIdeal.Body.largest_le (absf v) shapeCasts_S4096x2048_S1x4096x2048 reduces_S1x4096x2048_S1 (by decide) (.inl rfl) rfl
    (Shape.reshapeEquiv shapeCasts_S1_S1x1x1 fun a => ⟨(![0, 0, 0] : Fin 3 → Nat) a, inpos_S1x1x1_p0_0_0 a⟩) b

theorem absf_apply {s : Shape} (v : FVec Ideal s .f32) (i : s.Idx) : absf v i = max (α := EReal) (v i) (-(v i)) := rfl

/-- The largest magnitude of the product: what it is at most. -/
theorem largest_entry (X : BigX) (W : BigW) (b : EReal) :
    (largest (product X W) : EReal) ≤ b ↔ ∀ r l, max (entry X W r l) (-(entry X W r l)) ≤ b := by
  refine (largest_le (product X W) b).trans ⟨fun h r l => ?_, fun h i => ?_⟩
  · have := h (ix2 r l)
    rwa [absf_apply, product_apply] at this
  · obtain ⟨r, l, rfl⟩ : ∃ (r : Fin 4096) (l : Fin 2048), i = ix2 r l := ⟨_, _, eq_ix2 i⟩
    rw [absf_apply, product_apply]
    exact h r l

end Cert.ReferenceIdeal.Body

end
-- ==== Proof.Algebra.lean ====
/-
  The kernel's result against the reference's, over the extended reals.
-/
module

public import proofs.«01_k».proof.Proof.Frames
public import proofs.«01_k».proof.Proof.Reference

@[expose] public section

noncomputable section

namespace Cert.Proof

open Idealize.ShloMosaic Idealize.ShloMosaic.ValueIdx Idealize.SL.Sem
open Cert.KernelIdeal.Body (BigX BigW Held entry inBlock outAll scale yAll yAll_apply scale_eq)
open Cert.ReferenceIdeal.Body (quantised product largest pay_apply product_apply largest_entry)
open Cert.ReferenceIdeal.Gen (k0_pay1)

local instance : Cert.KernelIdeal.Facts := Cert.KernelIdeal.Gen.facts
local instance : Cert.ReferenceIdeal.Facts := Cert.ReferenceIdeal.Gen.facts

/-- The quantiser of the kernel is the reference's. -/
theorem outAll_apply (m : (ℓ : Loc Cert.KernelIdeal.nD Cert.KernelIdeal.τ Cert.KernelIdeal.sig) → Buf (Elt Ideal) ℓ)
    (c : Dev Cert.KernelIdeal.nD) (i : Cert.KernelIdeal.S1024x2048.Idx) : outAll m c i = quantised (scale m c) (yAll m c i) := by
  unfold outAll
  rfl

/-- Each device ends with its rows of the reference's result. -/
theorem result_eq {m : (ℓ : Loc Cert.KernelIdeal.nD Cert.KernelIdeal.τ Cert.KernelIdeal.sig) → Buf (Elt Ideal) ℓ} {X : BigX} {W : BigW}
    (h : Held m X W) (c : Dev Cert.KernelIdeal.nD) :
    outAll m c = Layout.block ⟨2, ![1024, 2048]⟩ ⟨2, ![4096, 2048]⟩ 0 4 c (k0_pay1 (F := Ideal) X W) := by
  funext i
  obtain ⟨r, l, rfl⟩ : ∃ (r : Fin 1024) (l : Fin 2048), i = ix2 r l := ⟨_, _, eq_ix2 i⟩
  have hi : (Layout.Tiles.idx (by decide : Layout.Tiles ⟨2, ![1024, 2048]⟩ ⟨2, ![4096, 2048]⟩ 0 4) c (ix2 r l)) = ix2 (inBlock c r) l :=
    funext fun a => match a with
      | ⟨0, _⟩ => rfl
      | ⟨1, _⟩ => rfl
  have hs : Scalar.divf (largest (product X W)) (Scalar.ofBits .f32 0x43E00000#32) = scale m c :=
    (Ideal.scalar_divf_def _ _).trans (scale_eq h c _ (largest_entry X W)).symm
  refine Eq.trans ?_ (congrArg (k0_pay1 (F := Ideal) X W) hi).symm
  rw [outAll_apply, yAll_apply h, pay_apply, hs, product_apply]

/-- The kernel and the reference compute the same function over the extended reals. -/
theorem algebraic : Cert.algebraic_KernelIdeal_ReferenceIdeal := fun m g m' g' _ h =>
  ⟨k0_pay1 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ hr c => ⟨(hr.1 c).2.2.trans (result_eq (fun c => ⟨(h c).1, (h c).2⟩) c), (hr.1 c).1, (hr.1 c).2.1⟩)
      (Cert.KernelIdeal.Body.run_main (F := Ideal) m g),
    (θ_run Cert.ReferenceIdeal.defs _ _).mono (fun _ hr => hr 0) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
